-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024x64 : Shape := ⟨3, ![1024, 1024, 64]⟩
abbrev S1024x64 : Shape := ⟨2, ![1024, 64]⟩
abbrev S1024x64x1024 : Shape := ⟨3, ![1024, 64, 1024]⟩
abbrev S64x1024 : Shape := ⟨2, ![64, 1024]⟩
abbrev S4x16x64x1024 : Shape := ⟨4, ![4, 16, 64, 1024]⟩
abbrev S4 : Shape := ⟨1, ![4]⟩
abbrev S1 : Shape := ⟨1, ![1]⟩
abbrev S_ : Shape := ⟨0, ![]⟩
abbrev S1x16x64x1024 : Shape := ⟨4, ![1, 16, 64, 1024]⟩
abbrev S16x64x1024 : Shape := ⟨3, ![16, 64, 1024]⟩
abbrev S1x64x1024 : Shape := ⟨3, ![1, 64, 1024]⟩

abbrev nBuf : Space → Nat
  | .hbm => 6
  | .vmem => 3
  | .smem => 0
  | _ => 0

abbrev bufTy : (tb : Table) → Fin (tcTables nBuf tb) → BufTy
  | .hbm, ⟨0, _⟩ => ⟨S1024x1024x64, .f32⟩
  | .hbm, ⟨1, _⟩ => ⟨S1024x64, .f32⟩
  | .hbm, ⟨2, _⟩ => ⟨S1024x64x1024, .f32⟩
  | .hbm, ⟨3, _⟩ => ⟨S64x1024, .f32⟩
  | .hbm, ⟨4, _⟩ => ⟨S1024x64x1024, .f32⟩
  | .hbm, ⟨5, _⟩ => ⟨S1024x1024x64, .f32⟩
  | .local _ .vmem, ⟨0, _⟩ => ⟨S64x1024, .f32⟩
  | .local _ .vmem, ⟨1, _⟩ => ⟨S4x16x64x1024, .f32⟩
  | .local _ .vmem, ⟨2, _⟩ => ⟨S4x16x64x1024, .f32⟩
  | _, _ => ⟨S1024x1024x64, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_26 : BitVec 32 := 0#32
  let c64_i32 : BitVec 32 := 64#32
  let v22 : BitVec 32 := Scalar.addi c0_i32_26 c64_i32
  let c1_i32_27 : BitVec 32 := 1#32
  ⟨c0_i32_26, v22, c1_i32_27⟩
def k0_off1 (k0_t1 : Fin k0_t1_loop.trips) : Fin 1 → Nat :=
  let c0_i32_26 : BitVec 32 := 0#32
  let c1_i32_27 : BitVec 32 := 1#32
  let arg7 : BitVec 32 := Scf.iv c0_i32_26 c1_i32_27 k0_t1
  let c4_i32 : BitVec 32 := 4#32
  let v43 : BitVec 32 := Scalar.remsi arg7 c4_i32
  ![v43.toNat]
def k0_off2 (k0_t1 : Fin k0_t1_loop.trips) : Fin 4 → Nat :=
  let c0_i32_26 : BitVec 32 := 0#32
  let c1_i32_27 : BitVec 32 := 1#32
  let arg7 : BitVec 32 := Scf.iv c0_i32_26 c1_i32_27 k0_t1
  let c4_i32 : BitVec 32 := 4#32
  let v43 : BitVec 32 := Scalar.remsi arg7 c4_i32
  let c0_i32_58 : BitVec 32 := 0#32
  let c0_i32_59 : BitVec 32 := 0#32
  let c0_i32_60 : BitVec 32 := 0#32
  ![v43.toNat, 0, 0, 0]
def k0_off3 (k0_t1 : Fin k0_t1_loop.trips) : Fin 3 → Nat :=
  let c0_i32_26 : BitVec 32 := 0#32
  let c1_i32_27 : BitVec 32 := 1#32
  let arg7 : BitVec 32 := Scf.iv c0_i32_26 c1_i32_27 k0_t1
  let c16_i32_57 : BitVec 32 := 16#32
  let v44 : BitVec 32 := Scalar.muli arg7 c16_i32_57
  let c0_i32_61 : BitVec 32 := 0#32
  let c0_i32_62 : BitVec 32 := 0#32
  ![v44.toNat, 0, 0]
def k0_cond1 (k0_t1 : Fin k0_t1_loop.trips) : BitVec 1 :=
  let c0_i32_26 : BitVec 32 := 0#32
  let c1_i32_27 : BitVec 32 := 1#32
  let arg7 : BitVec 32 := Scf.iv c0_i32_26 c1_i32_27 k0_t1
  let c4_i32_63 : BitVec 32 := 4#32
  let v50 : BitVec 1 := Scalar.cmpi .sge arg7 c4_i32_63
  let v51 : BitVec 32 := Scalar.extui v50
  let c0_i32_64 : BitVec 32 := 0#32
  let v52 : BitVec 1 := Scalar.cmpi .ne v51 c0_i32_64
  v52

def k0_off4 (k0_t1 : Fin k0_t1_loop.trips) : Fin 1 → Nat :=
  let c0_i32_26 : BitVec 32 := 0#32
  let c1_i32_27 : BitVec 32 := 1#32
  let arg7 : BitVec 32 := Scf.iv c0_i32_26 c1_i32_27 k0_t1
  let c4_i32 : BitVec 32 := 4#32
  let v43 : BitVec 32 := Scalar.remsi arg7 c4_i32
  ![v43.toNat]
def k0_off5 (k0_t1 : Fin k0_t1_loop.trips) : Fin 3 → Nat :=
  let c0_i32_26 : BitVec 32 := 0#32
  let c1_i32_27 : BitVec 32 := 1#32
  let arg7 : BitVec 32 := Scf.iv c0_i32_26 c1_i32_27 k0_t1
  let c4_i32_80 : BitVec 32 := 4#32
  let v73 : BitVec 32 := Scalar.subi arg7 c4_i32_80
  let c16_i32_81 : BitVec 32 := 16#32
  let v74 : BitVec 32 := Scalar.muli v73 c16_i32_81
  let c0_i32_82 : BitVec 32 := 0#32
  let c0_i32_83 : BitVec 32 := 0#32
  ![v74.toNat, 0, 0]
def k0_off6 (k0_t1 : Fin k0_t1_loop.trips) : Fin 4 → Nat :=
  let c0_i32_26 : BitVec 32 := 0#32
  let c1_i32_27 : BitVec 32 := 1#32
  let arg7 : BitVec 32 := Scf.iv c0_i32_26 c1_i32_27 k0_t1
  let c4_i32 : BitVec 32 := 4#32
  let v43 : BitVec 32 := Scalar.remsi arg7 c4_i32
  let c0_i32_84 : BitVec 32 := 0#32
  let c0_i32_85 : BitVec 32 := 0#32
  let c0_i32_86 : BitVec 32 := 0#32
  ![v43.toNat, 0, 0, 0]
def k0_off7 (k0_t1 : Fin k0_t1_loop.trips) : Fin 4 → Nat :=
  let c0_i32_26 : BitVec 32 := 0#32
  let c1_i32_27 : BitVec 32 := 1#32
  let arg7 : BitVec 32 := Scf.iv c0_i32_26 c1_i32_27 k0_t1
  let c4_i32 : BitVec 32 := 4#32
  let v43 : BitVec 32 := Scalar.remsi arg7 c4_i32
  let v53 : Index := Scalar.indexCast v43
  let c0_65 : Index := 0#32
  let c0_66 : Index := 0#32
  let c0_67 : Index := 0#32
  ![v53.toNat, 0, 0, 0]
def k0_cond2 (k0_t1 : Fin k0_t1_loop.trips) : BitVec 1 :=
  let c0_i32_26 : BitVec 32 := 0#32
  let c1_i32_27 : BitVec 32 := 1#32
  let arg7 : BitVec 32 := Scf.iv c0_i32_26 c1_i32_27 k0_t1
  let c4_i32_77 : BitVec 32 := 4#32
  let v69 : BitVec 32 := Scalar.addi arg7 c4_i32_77
  let c64_i32_78 : BitVec 32 := 64#32
  let v70 : BitVec 1 := Scalar.cmpi .slt v69 c64_i32_78
  let v71 : BitVec 32 := Scalar.extui v70
  let c0_i32_79 : BitVec 32 := 0#32
  let v72 : BitVec 1 := Scalar.cmpi .ne v71 c0_i32_79
  v72

def k0_off8 (k0_t1 : Fin k0_t1_loop.trips) : Fin 1 → Nat :=
  let c0_i32_26 : BitVec 32 := 0#32
  let c1_i32_27 : BitVec 32 := 1#32
  let arg7 : BitVec 32 := Scf.iv c0_i32_26 c1_i32_27 k0_t1
  let c4_i32 : BitVec 32 := 4#32
  let v43 : BitVec 32 := Scalar.remsi arg7 c4_i32
  ![v43.toNat]
def k0_off9 (k0_t1 : Fin k0_t1_loop.trips) : Fin 4 → Nat :=
  let c0_i32_26 : BitVec 32 := 0#32
  let c1_i32_27 : BitVec 32 := 1#32
  let arg7 : BitVec 32 := Scf.iv c0_i32_26 c1_i32_27 k0_t1
  let c4_i32 : BitVec 32 := 4#32
  let v43 : BitVec 32 := Scalar.remsi arg7 c4_i32
  let c0_i32_82 : BitVec 32 := 0#32
  let c0_i32_83 : BitVec 32 := 0#32
  let c0_i32_84 : BitVec 32 := 0#32
  ![v43.toNat, 0, 0, 0]
def k0_off10 (k0_t1 : Fin k0_t1_loop.trips) : Fin 3 → Nat :=
  let c0_i32_26 : BitVec 32 := 0#32
  let c1_i32_27 : BitVec 32 := 1#32
  let arg7 : BitVec 32 := Scf.iv c0_i32_26 c1_i32_27 k0_t1
  let c4_i32_80 : BitVec 32 := 4#32
  let v73 : BitVec 32 := Scalar.addi arg7 c4_i32_80
  let c16_i32_81 : BitVec 32 := 16#32
  let v74 : BitVec 32 := Scalar.muli v73 c16_i32_81
  let c0_i32_85 : BitVec 32 := 0#32
  let c0_i32_86 : BitVec 32 := 0#32
  ![v74.toNat, 0, 0]
abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x1024x64 : Shape := ⟨3, ![1024, 1024, 64]⟩
abbrev S1024x64 : Shape := ⟨2, ![1024, 64]⟩
abbrev S1024 : Shape := ⟨1, ![1024]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1x1024x64 : Shape := ⟨3, ![1, 1024, 64]⟩

abbrev nBuf : Space → Nat
  | .hbm => 35
  | .vmem => 0
  | .smem => 0
  | _ => 0

abbrev bufTy : (tb : Table) → Fin (tcTables nBuf tb) → BufTy
  | .hbm, ⟨0, _⟩ => ⟨S1024x1024x64, .f32⟩
  | .hbm, ⟨1, _⟩ => ⟨S1024x64, .f32⟩
  | .hbm, ⟨2, _⟩ => ⟨S1024, .i32⟩
  | .hbm, ⟨3, _⟩ => ⟨S_, .i32⟩
  | .hbm, ⟨4, _⟩ => ⟨S1024, .i32⟩
  | .hbm, ⟨5, _⟩ => ⟨S1024, .i32⟩
  | .hbm, ⟨6, _⟩ => ⟨S_, .i32⟩
  | .hbm, ⟨7, _⟩ => ⟨S1024, .i32⟩
  | .hbm, ⟨8, _⟩ => ⟨S1024, .i32⟩
  | .hbm, ⟨9, _⟩ => ⟨S_, .i32⟩
  | .hbm, ⟨10, _⟩ => ⟨S1024, .i32⟩
  | .hbm, ⟨11, _⟩ => ⟨S1024, .i1⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S1024, .i32⟩
  | .hbm, ⟨16, _⟩ => ⟨S1024x1, .i32⟩
  | .hbm, ⟨17, _⟩ => ⟨S1, .i32⟩
  | .hbm, ⟨18, _⟩ => ⟨S_, .i32⟩
  | .hbm, ⟨19, _⟩ => ⟨S1024x1, .i32⟩
  | .hbm, ⟨20, _⟩ => ⟨S1024x1, .i1⟩
  | .hbm, ⟨21, _⟩ => ⟨S1x1, .i32⟩
  | .hbm, ⟨22, _⟩ => ⟨S1024x1, .i32⟩
  | .hbm, ⟨23, _⟩ => ⟨S1024x1, .i1⟩
  | .hbm, ⟨24, _⟩ => ⟨S1024x1, .i1⟩
  | .hbm, ⟨25, _⟩ => ⟨S_, .i1⟩
  | .hbm, ⟨26, _⟩ => ⟨S1024, .i1⟩
  | .hbm, ⟨27, _⟩ => ⟨S1024x64, .f32⟩
  | .hbm, ⟨28, _⟩ => ⟨S1024x64, .i1⟩
  | .hbm, ⟨29, _⟩ => ⟨S_, .f32⟩
  | .hbm, ⟨30, _⟩ => ⟨S1024x64, .f32⟩
  | .hbm, ⟨31, _⟩ => ⟨S1024x64, .f32⟩
  | .hbm, ⟨32, _⟩ => ⟨S1x1024x64, .f32⟩
  | .hbm, ⟨33, _⟩ => ⟨S1024x1024x64, .f32⟩
  | .hbm, ⟨34, _⟩ => ⟨S1024x1024x64, .f32⟩
  | _, _ => ⟨S1024x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩

abbrev nD : Nat := 1
abbrev τ : Topo := Topo.v7x

variable {F : FTy → Type} [FloatOps F]
-- ==== Proof.Same.lean ====
/-
  The kernel's program and its idealization are one program: no operation was rewritten, so at any float values their texts and their
  bodies agree, and what is proved of one is proved of the other.
-/
module

public import proofs.«01_k».proof.Defs
public import proofs.«01_k».proof.Proof.Gen.Kernel
public import proofs.«01_k».proof.Proof.Gen.KernelIdeal

@[expose] public section

noncomputable section

namespace Cert.Proof.Same

open Idealize.ShloMosaic Idealize.SL.Sem

variable {F : FTy → Type} [FloatOps F]

/-- The two host programs agree. -/
theorem main_same : Cert.Kernel.main (F := F) = Cert.KernelIdeal.main (F := F) := rfl
/-- The two bodies of each label agree. -/
theorem bodies_same : Cert.Kernel.defs₀ (F := F) = Cert.KernelIdeal.defs₀ (F := F) := by
  funext k l a
  cases k with
  | tc =>
    obtain ⟨l, hl⟩ := l
    obtain _ | l := l
    · rfl
    · exact absurd hl (Nat.not_lt.2 (Nat.le_add_left _ _))
  | _ => rfl
/-- So do the tables of bodies their pipelines make. -/
theorem defs_same : Cert.Kernel.defs (F := F) = Cert.KernelIdeal.defs (F := F) :=
  congrArg (Pipeline.defs (Cert.Kernel.pcfgs (F := F))) bodies_same

end Cert.Proof.Same

end
-- ==== Proof.Reference.lean ====
/-
  What the reference computes, read at one element: the positions 0, 1, …, 1023 it looks up are all in the table, so each one reads
  its own row, and the result at `(b, p, d)` is the input there plus the table's element `(p, d)`.
-/
module

public import proofs.«01_k».proof.Proof.Gen.ReferenceIdeal.Run
public import Idealize.ShloMosaic.Lib.IdealHost
public import Idealize.ShloMosaic.Lib.ReduceAll
public import Idealize.ShloMosaic.Lib.Quiescent
public import Idealize.ShloMosaic.Lib.Routing.Ops
public import Idealize.ShloMosaic.Lib.Routing.OpsPair
public import Idealize.ShloMosaic.Lib.Routing.OpsSearch
public import Idealize.ShloMosaic.Lib.StableHlo.Predicate

@[expose] public section

noncomputable section

namespace Cert.Proof.Lookup

open Cert.ReferenceIdeal Cert.ReferenceIdeal.Gen
open Idealize.ShloMosaic Idealize.ShloMosaic.TcCoe Idealize.ShloMosaic.ValueIdx Idealize.ShloMosaic.StableHlo
open Idealize.SL.Sem

variable {F : FTy → Type} [FloatOps F]

/-- The positions, as the reference counts them: zero plus one times the axis' coordinate. -/
abbrev positions : IVec S1024 32 :=
  addi (broadcastInDim S1024 ![] bcast_S_S1024 (constantI S_ 32 0#32))
    (muli (broadcastInDim S1024 ![] bcast_S_S1024 (constantI S_ 32 1#32)) (iotaInDim S1024 32 0))
/-- The row numbers it looks up: a negative position would count from the table's end. -/
abbrev rows : IVec S1024x1 32 :=
  broadcastInDim S1024x1 ![0] bcast_S1024_S1024x1_0
    (select (cmpi .slt positions (broadcastInDim S1024 ![] bcast_S_S1024 (constantI S_ 32 0#32)))
      (addi positions (broadcastInDim S1024 ![] bcast_S_S1024 (constantI S_ 32 1024#32))) positions)
/-- The bit of each row number that says it lies in the table. -/
abbrev inside : IVec S1024x1 1 :=
  andi (cmpi .sge rows (broadcastInDim S1024x1 ![] bcast_S_S1024x1 (constantI S_ 32 0#32)))
    (cmpi .sle rows (broadcastInDim S1024x1 ![0, 1] bcast_S1x1_S1024x1_0_1 (broadcastInDim S1x1 ![1] bcast_S1_S1x1_1 (constantI S1 32 1023#32))))
/-- The rows found, with a fill in place of a row that is not in the table. -/
abbrev found (p : FVec F S1024x64 .f32) : FVec F S1024x64 .f32 :=
  select (broadcastInDim S1024x64 ![0] bcast_S1024_S1024x64_0 (Host.reduce IntOp.andi inside (constantI S_ 1 1#1) reducesTo_S1024x1_S1024_d1 h_S_))
    (Host.gather gather_S1024x64_S1024x1_S1024x64_1_0_n_n_0_1_164 p rows)
    (broadcastInDim S1024x64 ![] bcast_S_S1024x64 (constant S_ .f32 0x7FC00000#32))

/-- A position counted is the word of its number. -/
theorem positions_at (p : Fin 1024) : positions (ix1 p) = BitVec.ofNat 32 p.val := by
  show 0#32 + 1#32 * BitVec.ofNat 32 p.val = _
  rw [BitVec.one_mul, BitVec.zero_add]
/-- A position is a small word. -/
theorem small (p : Fin 1024) : (BitVec.ofNat 32 p.val).toNat = p.val := by
  rw [BitVec.toNat_ofNat]; exact Nat.mod_eq_of_lt (by omega)
/-- The row number looked up is the position itself. -/
theorem rows_at (p : Fin 1024) : rows (ix2 p (0 : Fin 1)) = BitVec.ofNat 32 p.val := by
  refine (Routing.bcCol bcast_S1024_S1024x1_0 _ p).trans ?_
  refine (Routing.wrap_of_lt (positions (ix1 p)) _ ?_).trans (positions_at p)
  rw [positions_at, small]; omega
/-- Every row number lies in the table. -/
theorem inside_at (i : S1024x1.Idx) : inside i = 1#1 := by
  obtain ⟨p, z, rfl⟩ : ∃ (p : Fin 1024) (z : Fin 1), i = ix2 p z := ⟨i 0, i 1, eq_ix2 i⟩
  obtain rfl : z = 0 := Subsingleton.elim _ _
  have low : IntOp.cmpi .sge (rows (ix2 p (0 : Fin 1))) 0#32 = 1#1 := by
    rw [rows_at]; exact (Predicate.sge_iff_toNat (by rw [small]; omega) (by decide)).2 (Nat.zero_le _)
  have high : IntOp.cmpi .sle (rows (ix2 p (0 : Fin 1))) 1023#32 = 1#1 := by
    rw [rows_at]
    refine (Predicate.sle_iff_toNat (by rw [small]; omega) (by decide)).2 ?_
    rw [small]; exact Nat.le_of_lt_succ p.isLt
  show IntOp.andi (IntOp.cmpi .sge (rows (ix2 p (0 : Fin 1))) 0#32) (IntOp.cmpi .sle (rows (ix2 p (0 : Fin 1))) 1023#32) = 1#1
  rw [low, high]; decide
/-- Each position finds its own row. -/
theorem found_at (y : FVec F S1024x64 .f32) (p : Fin 1024) (d : Fin 64) : found y (ix2 p d) = y (ix2 p d) := by
  have bit : broadcastInDim S1024x64 ![0] bcast_S1024_S1024x64_0
      (Host.reduce IntOp.andi inside (constantI S_ 1 1#1) reducesTo_S1024x1_S1024_d1 h_S_) (ix2 p d) = 1#1 :=
    Host.reduce_andi_one _ _ _ _ _ rfl inside_at
  show Scalar.select (broadcastInDim S1024x64 ![0] bcast_S1024_S1024x64_0
      (Host.reduce IntOp.andi inside (constantI S_ 1 1#1) reducesTo_S1024x1_S1024_d1 h_S_) (ix2 p d)) _ _ = _
  rw [bit, select_one]
  exact Routing.gather_row _ rfl rfl rfl rfl rfl y rows p d p (rows_at p) (by decide)

variable (m : (ℓ : Loc nD τ sig) → Buf (Elt F) ℓ) (ρ : Dev nD → PrngReg)

/-- Every run of the reference ends with the input plus each position's row in the result, the arguments as launched and every semaphore
    at zero. -/
theorem run_found :
    θ_run defs (onTc (τ := τ) (main (F := F))) ⟨m, fun _ => 0, ρ⟩ fun r =>
      (∀ c : Dev nD, r.2.mem ((c.tc : Thread nD τ).loc main_v8)
            = (fun i : S1024x1024x64.Idx => FloatOps.addf (m ((c.tc : Thread nD τ).loc main_arg0) i) (m ((c.tc : Thread nD τ).loc main_arg1) (ix2 (i 1) (i 2))))
          ∧ r.2.mem ((c.tc : Thread nD τ).loc main_arg0) = m ((c.tc : Thread nD τ).loc main_arg0)
          ∧ r.2.mem ((c.tc : Thread nD τ).loc main_arg1) = m ((c.tc : Thread nD τ).loc main_arg1))
        ∧ r.2.sem = fun _ => 0 := by
  refine (θ_run defs (onTc (τ := τ) main) ⟨m, fun _ => 0, ρ⟩).mono (fun r h => ⟨fun c => ⟨(h c).1.trans ?_, (h c).2⟩,
    sem_eq_zero_of_no_sems (by decide) r.2⟩) (Value.run m ρ)
  funext i
  obtain ⟨b, p, d, rfl⟩ : ∃ b p d, i = ix3 b p d := ⟨i 0, i 1, i 2, eq_ix3 i⟩
  exact congrArg (FloatOps.addf _) ((Routing.bcStack bcast_S1024x64_S1x1024x64_1_2 bcast_S1x1024x64_S1024x1024x64_0_1_2
    (found (m ((c.tc : Thread nD τ).loc main_arg1))) b p d).trans (found_at _ p d))

end Cert.Proof.Lookup

end
-- ==== Proof.KernelIdeal.Names.lean ====
/-
  The names of the kernel's proof: the sixty-four chunks of the two arrays in HBM, the four slots of each
  buffer in VMEM and the four semaphore cells of each direction, and the equations that turn the slices the
  program takes at trip `k` of its loop into these names.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Pipeline.FrameSuffixV
public import Idealize.ShloMosaic.Lib.Ring
public import Idealize.ShloMosaic.Lib.Affine
public import Idealize.ShloMosaic.Lib.Tactic

@[expose] public section

noncomputable section

namespace Cert.Proof.Positions

open Cert.KernelIdeal Cert.KernelIdeal.Gen
open Idealize.ShloMosaic
open Idealize.ShloMosaic.TcCoe Idealize.ShloMosaic.Tactic

/-! ## The arrays and their parts -/

/-- The transposed input, in HBM. -/
abbrev xM : Memref sig .tc .hbm S1024x64x1024 .f32 := Memref.whole main_v0
/-- The kernel's result before the last transposition, in HBM. -/
abbrev yM : Memref sig .tc .hbm S1024x64x1024 .f32 := Memref.whole main_v2
/-- The buffer that receives input chunks, in VMEM. -/
abbrev ibufM : Memref sig .tc .vmem S4x16x64x1024 .f32 := Memref.whole cc0_scratch0
/-- The buffer that holds computed chunks until they are copied out, in VMEM. -/
abbrev obufM : Memref sig .tc .vmem S4x16x64x1024 .f32 := Memref.whole cc0_scratch1

/-- Chunk `b` starts at row `16 * b`. -/
abbrev chunkOff (b : Fin 64) : Fin 3 → Nat := ![16 * b.val, 0, 0]
/-- Slot `s` of a buffer of four. -/
abbrev slotOff (s : Fin 4) : Fin 4 → Nat := ![s.val, 0, 0, 0]
/-- Cell `s` of an array of four semaphores. -/
abbrev cellOff (s : Fin 4) : Fin 1 → Nat := ![s.val]

theorem chunkOff_inb (b : Fin 64) : ∀ a, chunkOff b a + S16x64x1024.size a ≤ S1024x64x1024.size a := by
  have := b.isLt; intro a; fin_cases a
  · show 16 * b.val + 16 ≤ 1024; omega
  · show 0 + 64 ≤ 64; omega
  · show 0 + 1024 ≤ 1024; omega
theorem slotOff_inb (s : Fin 4) : ∀ a, slotOff s a + S1x16x64x1024.size a ≤ S4x16x64x1024.size a := by
  have := s.isLt; intro a; fin_cases a
  · show s.val + 1 ≤ 4; omega
  · show 0 + 16 ≤ 16; omega
  · show 0 + 64 ≤ 64; omega
  · show 0 + 1024 ≤ 1024; omega
theorem cellOff_inb (s : Fin 4) : ∀ a, cellOff s a + S1.size a ≤ S4.size a := by
  have := s.isLt; intro a; fin_cases a; show s.val + 1 ≤ 4; omega

/-- The part of an array that chunk `b` is. -/
abbrev chunkRect (b : Fin 64) : Rect S1024x64x1024 := Rect.unit (s := S1024x64x1024) (chunkOff b) S16x64x1024.size (chunkOff_inb b)
/-- The part of a buffer that slot `s` is. -/
abbrev slotRect (s : Fin 4) : Rect S4x16x64x1024 := Rect.unit (s := S4x16x64x1024) (slotOff s) S1x16x64x1024.size (slotOff_inb s)

/-- Chunk `b` of the input. -/
def xChunk (b : Fin 64) : Memref sig .tc .hbm S16x64x1024 .f32 := xM.slice (chunkRect b) (fun _ => rfl)
/-- Chunk `b` of the result. -/
def yChunk (b : Fin 64) : Memref sig .tc .hbm S16x64x1024 .f32 := yM.slice (chunkRect b) (fun _ => rfl)
/-- Slot `s` of the input buffer. -/
def iSlot (s : Fin 4) : Memref sig .tc .vmem S16x64x1024 .f32 :=
  (ibufM.slice (slotRect s) (fun _ => rfl)).squeeze S16x64x1024 squeezes_S1x16x64x1024_S16x64x1024
/-- Slot `s` of the output buffer. -/
def oSlot (s : Fin 4) : Memref sig .tc .vmem S16x64x1024 .f32 :=
  (obufM.slice (slotRect s) (fun _ => rfl)).squeeze S16x64x1024 squeezes_S1x16x64x1024_S16x64x1024
/-- The semaphore of input slot `s`. -/
def iCell (s : Fin 4) : DmaSems sig S_ := (cc0_scratch2.slice (Rect.unit (s := S4) (cellOff s) S1.size (cellOff_inb s))).squeeze S_ squeezes_S1_S_
/-- The semaphore of output slot `s`. -/
def oCell (s : Fin 4) : DmaSems sig S_ := (cc0_scratch3.slice (Rect.unit (s := S4) (cellOff s) S1.size (cellOff_inb s))).squeeze S_ squeezes_S1_S_

instance (b : Fin 64) : ClosedOff (chunkOff b) := ⟨chunkOff b, rfl⟩
instance (s : Fin 4) : ClosedOff (slotOff s) := ⟨slotOff s, rfl⟩

/-! ## The loop's arithmetic -/

/-- The loop makes sixty-four trips. -/
theorem trips_eq : k0_t1_loop.trips = 64 := by decide +kernel
/-- The trip waits for an earlier copy out exactly from trip 4 on. -/
theorem cond1_iff : ∀ k : Fin k0_t1_loop.trips, k0_cond1 k = 1#1 ↔ 4 ≤ k.val := by decide +kernel
/-- The trip starts a further copy in exactly while there is a chunk four ahead. -/
theorem cond2_iff : ∀ k : Fin k0_t1_loop.trips, k0_cond2 k = 1#1 ↔ k.val + 4 < 64 := by decide +kernel
/-- The chunk whose copy out the trip waits for is four behind. -/
theorem off5_val : ∀ k : Fin k0_t1_loop.trips, 4 ≤ k.val → k0_off5 k = ![16 * (k.val - 4), 0, 0] := by decide +kernel

theorem val_lt (k : Fin k0_t1_loop.trips) : k.val < 64 := Nat.lt_of_lt_of_eq k.isLt trips_eq

theorem sl_val (n : ℕ) : (Ring.sl 4 n).val = n % 4 := by simp [Ring.sl, Fin.ofNat]

theorem chunkOff_bk {n : ℕ} (h : n < 64) : chunkOff (Ring.bk 64 n) = ![16 * n, 0, 0] := by
  show (![16 * (Ring.bk 64 n).val, 0, 0] : Fin 3 → Nat) = _
  rw [Ring.bk_val h]
theorem slotOff_sl (n : ℕ) : slotOff (Ring.sl 4 n) = ![n % 4, 0, 0, 0] := by
  show (![(Ring.sl 4 n).val, 0, 0, 0] : Fin 4 → Nat) = _
  rw [sl_val]
theorem cellOff_sl (n : ℕ) : cellOff (Ring.sl 4 n) = ![n % 4] := by
  show (![(Ring.sl 4 n).val] : Fin 1 → Nat) = _
  rw [sl_val]

/-! ## The program's slices under these names -/

section Canon

private theorem iCell_congr {off : Fin 1 → Nat} {s : Fin 4} (e : off = cellOff s) (hh) :
    (cc0_scratch2.slice (Rect.unit (s := S4) off S1.size hh)).squeeze S_ squeezes_S1_S_ = iCell s :=
  congrArg (fun A : DmaSems sig S1 => A.squeeze S_ squeezes_S1_S_) (SemArray.slice_unit_congr _ e _ _)
private theorem oCell_congr {off : Fin 1 → Nat} {s : Fin 4} (e : off = cellOff s) (hh) :
    (cc0_scratch3.slice (Rect.unit (s := S4) off S1.size hh)).squeeze S_ squeezes_S1_S_ = oCell s :=
  congrArg (fun A : DmaSems sig S1 => A.squeeze S_ squeezes_S1_S_) (SemArray.slice_unit_congr _ e _ _)
private theorem iSlot_congr {off : Fin 4 → Nat} {s : Fin 4} (e : off = slotOff s) (hh hs) :
    (ibufM.slice (Rect.unit (s := S4x16x64x1024) off S1x16x64x1024.size hh) hs).squeeze S16x64x1024 squeezes_S1x16x64x1024_S16x64x1024 = iSlot s :=
  congrArg (fun M : Memref sig .tc .vmem S1x16x64x1024 .f32 => M.squeeze S16x64x1024 squeezes_S1x16x64x1024_S16x64x1024) (Memref.slice_unit_congr _ e _ _ _ _)
private theorem oSlot_congr {off : Fin 4 → Nat} {s : Fin 4} (e : off = slotOff s) (hh hs) :
    (obufM.slice (Rect.unit (s := S4x16x64x1024) off S1x16x64x1024.size hh) hs).squeeze S16x64x1024 squeezes_S1x16x64x1024_S16x64x1024 = oSlot s :=
  congrArg (fun M : Memref sig .tc .vmem S1x16x64x1024 .f32 => M.squeeze S16x64x1024 squeezes_S1x16x64x1024_S16x64x1024) (Memref.slice_unit_congr _ e _ _ _ _)
private theorem xChunk_congr {off : Fin 3 → Nat} {b : Fin 64} (e : off = chunkOff b) (hh hs) :
    xM.slice (Rect.unit (s := S1024x64x1024) off S16x64x1024.size hh) hs = xChunk b := Memref.slice_unit_congr _ e _ _ _ (fun _ => rfl)
private theorem yChunk_congr {off : Fin 3 → Nat} {b : Fin 64} (e : off = chunkOff b) (hh hs) :
    yM.slice (Rect.unit (s := S1024x64x1024) off S16x64x1024.size hh) hs = yChunk b := Memref.slice_unit_congr _ e _ _ _ (fun _ => rfl)

/-! The literal slices before and after the loop: slot and cell `s`, the first four and the last four chunks. -/

@[sl_canon] theorem iCell_0 (hh) : (cc0_scratch2.slice (Rect.unit (s := S4) ![0] S1.size hh)).squeeze S_ squeezes_S1_S_ = iCell (Ring.sl 4 0) := iCell_congr (by decide) _
@[sl_canon] theorem iCell_1 (hh) : (cc0_scratch2.slice (Rect.unit (s := S4) ![1] S1.size hh)).squeeze S_ squeezes_S1_S_ = iCell (Ring.sl 4 1) := iCell_congr (by decide) _
@[sl_canon] theorem iCell_2 (hh) : (cc0_scratch2.slice (Rect.unit (s := S4) ![2] S1.size hh)).squeeze S_ squeezes_S1_S_ = iCell (Ring.sl 4 2) := iCell_congr (by decide) _
@[sl_canon] theorem iCell_3 (hh) : (cc0_scratch2.slice (Rect.unit (s := S4) ![3] S1.size hh)).squeeze S_ squeezes_S1_S_ = iCell (Ring.sl 4 3) := iCell_congr (by decide) _
@[sl_canon] theorem oCell_0 (hh) : (cc0_scratch3.slice (Rect.unit (s := S4) ![0] S1.size hh)).squeeze S_ squeezes_S1_S_ = oCell (Ring.sl 4 64) := oCell_congr (by decide) _
@[sl_canon] theorem oCell_1 (hh) : (cc0_scratch3.slice (Rect.unit (s := S4) ![1] S1.size hh)).squeeze S_ squeezes_S1_S_ = oCell (Ring.sl 4 65) := oCell_congr (by decide) _
@[sl_canon] theorem oCell_2 (hh) : (cc0_scratch3.slice (Rect.unit (s := S4) ![2] S1.size hh)).squeeze S_ squeezes_S1_S_ = oCell (Ring.sl 4 66) := oCell_congr (by decide) _
@[sl_canon] theorem oCell_3 (hh) : (cc0_scratch3.slice (Rect.unit (s := S4) ![3] S1.size hh)).squeeze S_ squeezes_S1_S_ = oCell (Ring.sl 4 67) := oCell_congr (by decide) _
@[sl_canon] theorem iSlot_0 (hh hs) : (ibufM.slice (Rect.unit (s := S4x16x64x1024) ![0, 0, 0, 0] S1x16x64x1024.size hh) hs).squeeze S16x64x1024 squeezes_S1x16x64x1024_S16x64x1024 = iSlot (Ring.sl 4 0) := iSlot_congr (by decide) _ _
@[sl_canon] theorem iSlot_1 (hh hs) : (ibufM.slice (Rect.unit (s := S4x16x64x1024) ![1, 0, 0, 0] S1x16x64x1024.size hh) hs).squeeze S16x64x1024 squeezes_S1x16x64x1024_S16x64x1024 = iSlot (Ring.sl 4 1) := iSlot_congr (by decide) _ _
@[sl_canon] theorem iSlot_2 (hh hs) : (ibufM.slice (Rect.unit (s := S4x16x64x1024) ![2, 0, 0, 0] S1x16x64x1024.size hh) hs).squeeze S16x64x1024 squeezes_S1x16x64x1024_S16x64x1024 = iSlot (Ring.sl 4 2) := iSlot_congr (by decide) _ _
@[sl_canon] theorem iSlot_3 (hh hs) : (ibufM.slice (Rect.unit (s := S4x16x64x1024) ![3, 0, 0, 0] S1x16x64x1024.size hh) hs).squeeze S16x64x1024 squeezes_S1x16x64x1024_S16x64x1024 = iSlot (Ring.sl 4 3) := iSlot_congr (by decide) _ _
@[sl_canon] theorem oSlot_0 (hh hs) : (obufM.slice (Rect.unit (s := S4x16x64x1024) ![0, 0, 0, 0] S1x16x64x1024.size hh) hs).squeeze S16x64x1024 squeezes_S1x16x64x1024_S16x64x1024 = oSlot (Ring.sl 4 64) := oSlot_congr (by decide) _ _
@[sl_canon] theorem oSlot_1 (hh hs) : (obufM.slice (Rect.unit (s := S4x16x64x1024) ![1, 0, 0, 0] S1x16x64x1024.size hh) hs).squeeze S16x64x1024 squeezes_S1x16x64x1024_S16x64x1024 = oSlot (Ring.sl 4 65) := oSlot_congr (by decide) _ _
@[sl_canon] theorem oSlot_2 (hh hs) : (obufM.slice (Rect.unit (s := S4x16x64x1024) ![2, 0, 0, 0] S1x16x64x1024.size hh) hs).squeeze S16x64x1024 squeezes_S1x16x64x1024_S16x64x1024 = oSlot (Ring.sl 4 66) := oSlot_congr (by decide) _ _
@[sl_canon] theorem oSlot_3 (hh hs) : (obufM.slice (Rect.unit (s := S4x16x64x1024) ![3, 0, 0, 0] S1x16x64x1024.size hh) hs).squeeze S16x64x1024 squeezes_S1x16x64x1024_S16x64x1024 = oSlot (Ring.sl 4 67) := oSlot_congr (by decide) _ _
@[sl_canon] theorem xChunk_0 (hh hs) : xM.slice (Rect.unit (s := S1024x64x1024) ![0, 0, 0] S16x64x1024.size hh) hs = xChunk (Ring.bk 64 0) := xChunk_congr (by decide) _ _
@[sl_canon] theorem xChunk_1 (hh hs) : xM.slice (Rect.unit (s := S1024x64x1024) ![16, 0, 0] S16x64x1024.size hh) hs = xChunk (Ring.bk 64 1) := xChunk_congr (by decide) _ _
@[sl_canon] theorem xChunk_2 (hh hs) : xM.slice (Rect.unit (s := S1024x64x1024) ![32, 0, 0] S16x64x1024.size hh) hs = xChunk (Ring.bk 64 2) := xChunk_congr (by decide) _ _
@[sl_canon] theorem xChunk_3 (hh hs) : xM.slice (Rect.unit (s := S1024x64x1024) ![48, 0, 0] S16x64x1024.size hh) hs = xChunk (Ring.bk 64 3) := xChunk_congr (by decide) _ _
@[sl_canon] theorem yChunk_60 (hh hs) : yM.slice (Rect.unit (s := S1024x64x1024) ![960, 0, 0] S16x64x1024.size hh) hs = yChunk (Ring.bk 64 60) := yChunk_congr (by decide) _ _
@[sl_canon] theorem yChunk_61 (hh hs) : yM.slice (Rect.unit (s := S1024x64x1024) ![976, 0, 0] S16x64x1024.size hh) hs = yChunk (Ring.bk 64 61) := yChunk_congr (by decide) _ _
@[sl_canon] theorem yChunk_62 (hh hs) : yM.slice (Rect.unit (s := S1024x64x1024) ![992, 0, 0] S16x64x1024.size hh) hs = yChunk (Ring.bk 64 62) := yChunk_congr (by decide) _ _
@[sl_canon] theorem yChunk_63 (hh hs) : yM.slice (Rect.unit (s := S1024x64x1024) ![1008, 0, 0] S16x64x1024.size hh) hs = yChunk (Ring.bk 64 63) := yChunk_congr (by decide) _ _

/-! Trip `k`'s slices: slot and cell `k % 4`, chunk `k`, the chunk four behind (waited) and four ahead (started). -/

variable (k : Fin k0_t1_loop.trips)

theorem cell_off1 : k0_off1 k = cellOff (Ring.sl 4 k.val) := (k0_off1_eq k).trans (cellOff_sl k.val).symm
theorem cell_off4 : k0_off4 k = cellOff (Ring.sl 4 k.val) := (k0_off4_eq k).trans (cellOff_sl k.val).symm
theorem cell_off8 : k0_off8 k = cellOff (Ring.sl 4 k.val) := (k0_off8_eq k).trans (cellOff_sl k.val).symm
theorem slot_off2 : k0_off2 k = slotOff (Ring.sl 4 k.val) := (k0_off2_eq k).trans (slotOff_sl k.val).symm
theorem slot_off6 : k0_off6 k = slotOff (Ring.sl 4 k.val) := (k0_off6_eq k).trans (slotOff_sl k.val).symm
theorem slot_off7 : k0_off7 k = slotOff (Ring.sl 4 k.val) := (k0_off7_eq k).trans (slotOff_sl k.val).symm
theorem slot_off9 : k0_off9 k = slotOff (Ring.sl 4 k.val) := (k0_off9_eq k).trans (slotOff_sl k.val).symm
theorem chunk_off3 : k0_off3 k = chunkOff (Ring.bk 64 k.val) := (k0_off3_eq k).trans (chunkOff_bk (val_lt k)).symm
theorem chunk_off5 (h : 4 ≤ k.val) : k0_off5 k = chunkOff (Ring.bk 64 (k.val - 4)) :=
  (off5_val k h).trans (chunkOff_bk (by have := val_lt k; omega)).symm
theorem chunk_off10 (h : k.val + 4 < 64) : k0_off10 k = chunkOff (Ring.bk 64 (k.val + 4)) := by
  rw [k0_off10_eq k, chunkOff_bk h]
  congr 1

instance : ClosedOff (k0_off2 k) := ⟨slotOff (Ring.sl 4 k.val), slot_off2 k⟩
instance : ClosedOff (k0_off7 k) := ⟨slotOff (Ring.sl 4 k.val), slot_off7 k⟩

@[sl_canon] theorem iCell_off1 (hh) : (cc0_scratch2.slice (Rect.unit (s := S4) (k0_off1 k) S1.size hh)).squeeze S_ squeezes_S1_S_ = iCell (Ring.sl 4 k.val) := iCell_congr (cell_off1 k) _
@[sl_canon] theorem iCell_off8 (hh) : (cc0_scratch2.slice (Rect.unit (s := S4) (k0_off8 k) S1.size hh)).squeeze S_ squeezes_S1_S_ = iCell (Ring.sl 4 k.val) := iCell_congr (cell_off8 k) _
@[sl_canon] theorem oCell_off1 (hh) : (cc0_scratch3.slice (Rect.unit (s := S4) (k0_off1 k) S1.size hh)).squeeze S_ squeezes_S1_S_ = oCell (Ring.sl 4 k.val) := oCell_congr (cell_off1 k) _
@[sl_canon] theorem oCell_off4 (hh) : (cc0_scratch3.slice (Rect.unit (s := S4) (k0_off4 k) S1.size hh)).squeeze S_ squeezes_S1_S_ = oCell (Ring.sl 4 k.val) := oCell_congr (cell_off4 k) _
@[sl_canon] theorem iSlot_off2 (hh hs) : (ibufM.slice (Rect.unit (s := S4x16x64x1024) (k0_off2 k) S1x16x64x1024.size hh) hs).squeeze S16x64x1024 squeezes_S1x16x64x1024_S16x64x1024 = iSlot (Ring.sl 4 k.val) := iSlot_congr (slot_off2 k) _ _
@[sl_canon] theorem iSlot_off9 (hh hs) : (ibufM.slice (Rect.unit (s := S4x16x64x1024) (k0_off9 k) S1x16x64x1024.size hh) hs).squeeze S16x64x1024 squeezes_S1x16x64x1024_S16x64x1024 = iSlot (Ring.sl 4 k.val) := iSlot_congr (slot_off9 k) _ _
@[sl_canon] theorem oSlot_off2 (hh hs) : (obufM.slice (Rect.unit (s := S4x16x64x1024) (k0_off2 k) S1x16x64x1024.size hh) hs).squeeze S16x64x1024 squeezes_S1x16x64x1024_S16x64x1024 = oSlot (Ring.sl 4 k.val) := oSlot_congr (slot_off2 k) _ _
@[sl_canon] theorem oSlot_off6 (hh hs) : (obufM.slice (Rect.unit (s := S4x16x64x1024) (k0_off6 k) S1x16x64x1024.size hh) hs).squeeze S16x64x1024 squeezes_S1x16x64x1024_S16x64x1024 = oSlot (Ring.sl 4 k.val) := oSlot_congr (slot_off6 k) _ _
@[sl_canon] theorem xChunk_off3 (hh hs) : xM.slice (Rect.unit (s := S1024x64x1024) (k0_off3 k) S16x64x1024.size hh) hs = xChunk (Ring.bk 64 k.val) := xChunk_congr (chunk_off3 k) _ _
@[sl_canon] theorem xChunk_off10 (h : k.val + 4 < 64) (hh hs) : xM.slice (Rect.unit (s := S1024x64x1024) (k0_off10 k) S16x64x1024.size hh) hs = xChunk (Ring.bk 64 (k.val + 4)) := xChunk_congr (chunk_off10 k h) _ _
@[sl_canon] theorem yChunk_off3 (hh hs) : yM.slice (Rect.unit (s := S1024x64x1024) (k0_off3 k) S16x64x1024.size hh) hs = yChunk (Ring.bk 64 k.val) := yChunk_congr (chunk_off3 k) _ _
@[sl_canon] theorem yChunk_off5 (h : 4 ≤ k.val) (hh hs) : yM.slice (Rect.unit (s := S1024x64x1024) (k0_off5 k) S16x64x1024.size hh) hs = yChunk (Ring.bk 64 (k.val - 4)) := yChunk_congr (chunk_off5 k h) _ _

end Canon

end Cert.Proof.Positions

end
-- ==== Proof.KernelIdeal.Block.lean ====
/-
  What one trip of the loop computes: the chunk that it stores and copies out is, element by element, the sum of
  the input chunk and the position table.
-/
module

public import proofs.«01_k».proof.Proof.KernelIdeal.Names
public import Idealize.ShloMosaic.Lib.ViewIndex
public import Idealize.ShloMosaic.Lib.ValueIdxCore
public import Idealize.ShloMosaic.Lib.Writes

@[expose] public section

noncomputable section

namespace Cert.Proof.Positions

open Cert.KernelIdeal Cert.KernelIdeal.Gen
open Idealize.ShloMosaic
open Idealize.ShloMosaic.TcCoe Idealize.ShloMosaic.Tactic
open Idealize.ShloMosaic.ValueIdx

variable {F : FTy → Type} [FloatOps F]

/-- The array that the kernel leaves: at `(r, d, l)` the input's element there plus the table's at `(d, l)`. -/
def sumArr (X : S1024x64x1024.Idx → F .f32) (p : FVec F S64x1024 .f32) : S1024x64x1024.Idx → F .f32 :=
  fun i => FloatOps.addf (X i) (p (ix2 (i 1) (i 2)))

/-- The table, given a unit axis in front and repeated along it, read at an index: the table at the last two
    coordinates. -/
theorem table_apply (p : FVec F S64x1024 .f32) (h h') (y : S16x64x1024.Idx) :
    broadcastTo S16x64x1024 (shapeCast S1x64x1024 p h) h' y = p (ix2 (y 1) (y 2)) := by
  refine congrArg p (Shape.reshapeEquiv_eq_of_rowMajor _ ?_)
  rw [Shape.rowMajor_val_three, Shape.rowMajor_val_two]
  simp

/-- The value the trip stores, read where the squeezed slot has the index `y`: the loaded element there plus the
    table's at the last two coordinates. -/
theorem pay_apply (p : FVec F S64x1024 .f32) (w : Vec F S1x16x64x1024 .f32) (h : S16x64x1024.numel = S1x16x64x1024.numel)
    (y : S16x64x1024.Idx) :
    k0_pay1 p w (Shape.reshapeEquiv h y) = FloatOps.addf (w (Shape.reshapeEquiv h y)) (p (ix2 (y 1) (y 2))) := by
  unfold k0_pay1
  show FloatOps.addf (w (Shape.reshapeEquiv _ (Shape.reshapeEquiv _ (Shape.reshapeEquiv h y))))
    (broadcastTo S16x64x1024 (shapeCast S1x64x1024 p) _ (Shape.reshapeEquiv _ (Shape.reshapeEquiv h y))) = _
  rw [Shape.reshapeEquiv_reshapeEquiv, Shape.reshapeEquiv_self, table_apply, Shape.reshapeEquiv_reshapeEquiv, Shape.reshapeEquiv_self]

variable (c : Dev nD)

/-- The output slot after trip `k`'s store, read as a chunk: the input slot's element plus the table's. The store and
    the load go through the whole buffers, at the slot's offset. -/
theorem stored_read (p : FVec F S64x1024 .f32) {off : Fin 4 → Nat} {s : Fin 4} (e : off = slotOff s) (hh hh')
    (f : Buf (Elt F) ((iSlot s).view.loc (c : Thread nD τ))) (g : Buf (Elt F) ((oSlot s).view.loc (c : Thread nD τ))) (y : S16x64x1024.Idx) :
    (oSlot s).view.read (Elt F)
        (View.write (Elt F) (obufM.access (Rect.unit (s := S4x16x64x1024) off S1x16x64x1024.size hh)) g
          (k0_pay1 p (View.readAt (Elt F) ibufM.view (Rect.unit (s := S4x16x64x1024) off S1x16x64x1024.size hh').toLoadRect f)) Finset.univ) y
      = FloatOps.addf ((iSlot s).view.read (Elt F) f y) (p (ix2 (y 1) (y 2))) := by
  subst e
  refine (View.read_write_of_mem (v := obufM.access (slotRect s)) g _ (Finset.mem_univ _)).trans ?_
  exact pay_apply p _ _ y

omit [FloatOps F] in
/-- A chunk starts at column 0 of the other two axes, so it keeps their coordinates. -/
theorem chunk_keeps (b : Fin 64) (y : S16x64x1024.Idx) :
    (chunkRect b).emb y 1 = y 1 ∧ (chunkRect b).emb y 2 = y 2 := by
  refine ⟨Fin.ext ?_, Fin.ext ?_⟩
  · show 0 + 1 * (y 1).val = (y 1).val; omega
  · show 0 + 1 * (y 2).val = (y 2).val; omega

/-- The sum array at an element of chunk `b`. -/
theorem sumArr_chunk (X : S1024x64x1024.Idx → F .f32) (p : FVec F S64x1024 .f32) (b : Fin 64) (y : S16x64x1024.Idx) :
    sumArr X p ((chunkRect b).emb y) = FloatOps.addf (X ((chunkRect b).emb y)) (p (ix2 (y 1) (y 2))) := by
  unfold sumArr
  rw [(chunk_keeps b y).1, (chunk_keeps b y).2]

omit [FloatOps F] in
/-- A chunk of the result, written whole and read at the place of the chunk's index `y`, is the value written. -/
theorem written_at (b : Fin 64) (Y : Buf (Elt F) (yM.view.loc (c : Thread nD τ))) (w : S16x64x1024.Idx → F .f32) (y : S16x64x1024.Idx) :
    (yChunk b).view.writes (Elt F) Y [⟨Rect.whole S16x64x1024, w⟩] ((yChunk b).view.emb y) = w y := by
  have h := congrFun (View.read_writes_whole (Val := Elt F) (yChunk b).view Y w) y
  rw [View.read_apply] at h
  generalize (yChunk b).view.writes (Elt F) Y [⟨Rect.whole S16x64x1024, w⟩] = Z at h ⊢
  generalize (yChunk b).view.emb y = i at h ⊢
  exact h

omit [FloatOps F] in
/-- Chunk `b` of the result lies on the rows of chunk `b`. -/
theorem yChunk_set (b : Fin 64) : (yChunk b).view.set = (chunkRect b).set := View.set_slice_whole _ _

/-- Chunk `b` of the result after a whole copy whose values are the sums over chunk `b` of the input: the sum
    array's elements. -/
theorem chunk_out (X : Buf (Elt F) (xM.view.loc (c : Thread nD τ))) (p : FVec F S64x1024 .f32) (b : Fin 64)
    (Y : Buf (Elt F) (yM.view.loc (c : Thread nD τ))) (w : S16x64x1024.Idx → F .f32)
    (hw : ∀ y, w y = FloatOps.addf ((xChunk b).view.read (Elt F) X y) (p (ix2 (y 1) (y 2)))) :
    ∀ i ∈ (yChunk b).view.set, (yChunk b).view.writes (Elt F) Y [⟨Rect.whole S16x64x1024, w⟩] i = sumArr X p i := by
  rw [yChunk_set, ← Rect.map_emb_univ]
  intro i hi
  obtain ⟨y, -, rfl⟩ := Finset.mem_map.mp hi
  refine (written_at c b Y w y).trans ((hw y).trans ?_)
  exact (sumArr_chunk X p b y).symm

end Cert.Proof.Positions

end
-- ==== Proof.KernelIdeal.Trip.lean ====
/-
  One trip of the kernel's loop, at a symbolic trip number. The trip waits for the copy in of its chunk, waits for the
  slot's earlier copy out if there is one, stores the sum, starts its copy out, and starts the copy in of the chunk
  four ahead if there is one. Three cases: the first four trips, the middle ones, the last four.
-/
module

public import proofs.«01_k».proof.Proof.KernelIdeal.Block

@[expose] public section

noncomputable section

namespace Cert.Proof.Positions

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's rounds beside the copies' counters. -/
abbrev UU (nD : Nat) (τ : Topo) : Type := UR sig nD τ × Counters
local notation "𝕄" => MT nD τ sig Unit (Elt F) ℕ (UU nD τ) ℕ
/-- The program has no loop that needs a variant. -/
abbrev 𝒱₀ : Variants := Variants.none

/-! ## The pieces of the state -/

section Pieces

variable (c : Dev nD)

/-- The contents of the transposed input's array. -/
abbrev XBuf : Type := Buf (Elt F) (xM.view.loc (c : Thread nD τ))
/-- The contents of the result's array. -/
abbrev YBuf : Type := Buf (Elt F) (yM.view.loc (c : Thread nD τ))

/-- Input slot `s`'s semaphore at zero. -/
abbrev iCellP (s : Fin 4) : sProp 𝕄 := semVal ((c : Thread nD τ), SemLoc.dma (iCell s).sem) 0
/-- Output slot `s`'s semaphore at zero. -/
abbrev oCellP (s : Fin 4) : sProp 𝕄 := semVal ((c : Thread nD τ), SemLoc.dma (oCell s).sem) 0
/-- Input slot `s` held at `f`. -/
abbrev iSlotP (s : Fin 4) (f : Buf (Elt F) ((iSlot s).view.loc (c : Thread nD τ))) : sProp 𝕄 :=
  (iSlot s).view.loc (c : Thread nD τ) ↦[(iSlot s).view.set]{fullShare} f
/-- Output slot `s` held at `g`. -/
abbrev oSlotP (s : Fin 4) (g : Buf (Elt F) ((oSlot s).view.loc (c : Thread nD τ))) : sProp 𝕄 :=
  (oSlot s).view.loc (c : Thread nD τ) ↦[(oSlot s).view.set]{fullShare} g
/-- Chunk `b` of the input held at `X`. -/
abbrev xP (X : XBuf (F := F) c) (b : Fin 64) : sProp 𝕄 := (xChunk b).view.loc (c : Thread nD τ) ↦[(xChunk b).view.set]{fullShare} X
/-- Chunk `b` of the result held at `Y`. -/
abbrev yP (Y : YBuf (F := F) c) (b : Fin 64) : sProp 𝕄 := (yChunk b).view.loc (c : Thread nD τ) ↦[(yChunk b).view.set]{fullShare} Y
/-- The copy of input chunk `b` into slot `s` in flight. -/
abbrev iFlight (X : XBuf (F := F) c) (s : Fin 4) (b : Fin 64) (f : Buf (Elt F) ((iSlot s).view.loc (c : Thread nD τ))) : sProp 𝕄 :=
  Transfers.Flight countersEmb (c : Thread nD τ) (SemLoc.dma (iCell s).sem) () 131072 iprop(iSlotP c s f ∗ xP c X b)
/-- The copy of slot `s` into result chunk `b` in flight. -/
abbrev oFlight (Y : YBuf (F := F) c) (s : Fin 4) (b : Fin 64) (g : Buf (Elt F) ((oSlot s).view.loc (c : Thread nD τ))) : sProp 𝕄 :=
  Transfers.Flight countersEmb (c : Thread nD τ) (SemLoc.dma (oCell s).sem) () 131072 iprop(yP c Y b ∗ oSlotP c s g)

/-- The copy of chunk `b` into slot `s` in flight; on arrival the slot holds the chunk. -/
def inFl (X : XBuf (F := F) c) (s : Fin 4) (b : Fin 64) : sProp 𝕄 :=
  iprop(∃ f, ⌜∀ y, (iSlot s).view.read (Elt F) f y = (xChunk b).view.read (Elt F) X y⌝ ∗ iFlight c X s b f)
/-- The copy of slot `s` into chunk `b` in flight; on arrival the chunk holds the elements of `G`. -/
def outFl (G : YBuf (F := F) c) (s : Fin 4) (b : Fin 64) : sProp 𝕄 :=
  iprop(∃ Y g, ⌜∀ i ∈ (yChunk b).view.set, Y i = G i⌝ ∗ oFlight c Y s b g)
/-- Input slot `s` with no copy in flight. -/
def inFree (s : Fin 4) : sProp 𝕄 := iprop((∃ f, iSlotP (F := F) c s f) ∗ iCellP c s)
/-- Output slot `s` with no copy in flight. -/
def outFree (s : Fin 4) : sProp 𝕄 := iprop((∃ g, oSlotP (F := F) c s g) ∗ oCellP c s)
/-- The waits that the core has made. -/
def owe : sProp 𝕄 := iprop(∃ W, owes (c : Thread nD τ) 0 W)

end Pieces

/-! ## What the copies deliver -/

section Values

variable (c : Dev nD)

omit [FloatOps F] in
/-- A slot that a chunk was copied into, over any contents, reads as the chunk. -/
theorem landed_read (X : XBuf (F := F) c) (s : Fin 4) (b : Fin 64) (f : Buf (Elt F) ((iSlot s).view.loc (c : Thread nD τ))) (y) :
    (iSlot s).view.read (Elt F) ((iSlot s).view.writes (Elt F) f [⟨Rect.whole S16x64x1024, ReadAs.same.apply ((xChunk b).view.read (Elt F) X)⟩]) y
      = (xChunk b).view.read (Elt F) X y :=
  congrFun (View.read_writes_whole (Val := Elt F) (iSlot s).view f _) y

omit [FloatOps F] in
/-- A chunk of the result is held at any contents with the same elements on it. -/
theorem yP_congr (b : Fin 64) (Y G : YBuf (F := F) c) (h : ∀ i ∈ (yChunk b).view.set, Y i = G i) :
    (yP c Y b : sProp 𝕄) = yP c G b := pointsTo_congr h

end Values

/-! ## The trip -/

section Trip

variable (c : Dev nD) (X : XBuf (F := F) c) (arg1 : Memref sig .tc .vmem S64x1024 .f32) (harg1 : arg1.IsWhole) (v1 : FVec F S64x1024 .f32)

/-- The loop's region at trip `k`. -/
abbrev tripG (k : Fin k0_t1_loop.trips) : Prog (TpuEff nD τ sig (Elt F) Λ₀ .tc) Unit :=
  k0_t1_body (F := F) xM (Memref.isWhole_whole _) arg1 harg1 yM (Memref.isWhole_whole _) ibufM (Memref.isWhole_whole _) obufM (Memref.isWhole_whole _) cc0_scratch2 cc0_scratch3 v1 k ()

/-- A middle trip: it waits both copies of its slot and starts both again. -/
theorem trip_mid (k : Fin k0_t1_loop.trips) (h1 : 4 ≤ k.val) (h2 : k.val + 4 < 64) (Y' : YBuf (F := F) c) :
    iprop(inFl c X (Ring.sl 4 k.val) (Ring.bk 64 k.val) ∗ outFl c (sumArr X v1) (Ring.sl 4 k.val) (Ring.bk 64 (k.val - 4))
        ∗ xP c X (Ring.bk 64 (k.val + 4)) ∗ yP c Y' (Ring.bk 64 k.val) ∗ owe c)
      ⊢ wp frame (wpE (defs₀ (F := F)) 𝒱₀ (c : Thread nD τ) none) Set.univ (tripG arg1 harg1 v1 k) (fun _ =>
        iprop(inFl c X (Ring.sl 4 k.val) (Ring.bk 64 (k.val + 4)) ∗ outFl c (sumArr X v1) (Ring.sl 4 k.val) (Ring.bk 64 k.val)
          ∗ xP c X (Ring.bk 64 k.val) ∗ yP c (sumArr X v1) (Ring.bk 64 (k.val - 4)) ∗ owe c)) := by
  have hc1 : k0_cond1 k = 1#1 := (cond1_iff k).2 h1
  have hc2 : k0_cond2 k = 1#1 := (cond2_iff k).2 h2
  unfold inFl outFl owe
  iintro ⟨⟨%f, %hf, HI⟩, ⟨%Y, %g, %hY, HO⟩, HX, HY, ⟨%W, HW⟩⟩
  dsimp only [tripG]
  sl_unfold [k0_t1_body]
  sl_exec
  sl_step
  isplitl [HI]
  · iexists _; isplitr; · ipureintro; exact landed_read c X _ _ f
    iexact HI
  isplitl [HO]
  · iexists _, _
    isplitr
    on_goal 2 => iexact HO
    ipureintro
    exact chunk_out c X v1 _ Y' _ fun y => (stored_read c v1 (slot_off7 k) _ _ f g y).trans (congrArg (fun a => FloatOps.addf a _) (hf y))
  isplitl [HI_src]; · iexact HI_src
  isplitl [HO_dst]
  · irw [← yP_congr c _ Y (sumArr X v1) hY]; iexact HO_dst
  iexists _; iexact HW

/-- One of the first four trips: no copy out of its slot is in flight yet. -/
theorem trip_first (k : Fin k0_t1_loop.trips) (h1 : k.val < 4) (Y' : YBuf (F := F) c) :
    iprop(inFl c X (Ring.sl 4 k.val) (Ring.bk 64 k.val) ∗ outFree c (Ring.sl 4 k.val)
        ∗ xP c X (Ring.bk 64 (k.val + 4)) ∗ yP c Y' (Ring.bk 64 k.val) ∗ owe c)
      ⊢ wp frame (wpE (defs₀ (F := F)) 𝒱₀ (c : Thread nD τ) none) Set.univ (tripG arg1 harg1 v1 k) (fun _ =>
        iprop(inFl c X (Ring.sl 4 k.val) (Ring.bk 64 (k.val + 4)) ∗ outFl c (sumArr X v1) (Ring.sl 4 k.val) (Ring.bk 64 k.val)
          ∗ xP c X (Ring.bk 64 k.val) ∗ owe c)) := by
  have h2 : k.val + 4 < 64 := by omega
  have hc1 : ¬ k0_cond1 k = 1#1 := fun h => absurd ((cond1_iff k).1 h) (by omega)
  have hc2 : k0_cond2 k = 1#1 := (cond2_iff k).2 h2
  unfold inFl outFl outFree owe
  iintro ⟨⟨%f, %hf, HI⟩, ⟨⟨%g, HS⟩, HO⟩, HX, HY, ⟨%W, HW⟩⟩
  dsimp only [tripG]
  sl_unfold [k0_t1_body]
  sl_exec
  sl_step
  isplitl [HI]
  · iexists _; isplitr; · ipureintro; exact landed_read c X _ _ f
    iexact HI
  isplitl [HO]
  · iexists _, _
    isplitr
    on_goal 2 => iexact HO
    ipureintro
    exact chunk_out c X v1 _ Y' _ fun y => (stored_read c v1 (slot_off7 k) _ _ f g y).trans (congrArg (fun a => FloatOps.addf a _) (hf y))
  isplitl [HI_src]; · iexact HI_src
  iexists _; iexact HW

/-- One of the last four trips: no chunk is left to copy in, so its input slot stays free. -/
theorem trip_last (k : Fin k0_t1_loop.trips) (h2 : 60 ≤ k.val) (Y' : YBuf (F := F) c) :
    iprop(inFl c X (Ring.sl 4 k.val) (Ring.bk 64 k.val) ∗ outFl c (sumArr X v1) (Ring.sl 4 k.val) (Ring.bk 64 (k.val - 4))
        ∗ yP c Y' (Ring.bk 64 k.val) ∗ owe c)
      ⊢ wp frame (wpE (defs₀ (F := F)) 𝒱₀ (c : Thread nD τ) none) Set.univ (tripG arg1 harg1 v1 k) (fun _ =>
        iprop(inFree c (Ring.sl 4 k.val) ∗ outFl c (sumArr X v1) (Ring.sl 4 k.val) (Ring.bk 64 k.val)
          ∗ xP c X (Ring.bk 64 k.val) ∗ yP c (sumArr X v1) (Ring.bk 64 (k.val - 4)) ∗ owe c)) := by
  have h1 : 4 ≤ k.val := by omega
  have hc1 : k0_cond1 k = 1#1 := (cond1_iff k).2 h1
  have hc2 : ¬ k0_cond2 k = 1#1 := fun h => absurd ((cond2_iff k).1 h) (by omega)
  unfold inFl outFl inFree owe
  iintro ⟨⟨%f, %hf, HI⟩, ⟨%Y, %g, %hY, HO⟩, HY, ⟨%W, HW⟩⟩
  dsimp only [tripG]
  sl_unfold [k0_t1_body]
  sl_exec
  sl_step
  isplitl [HI HI_dst]
  · isplitl [HI_dst]; · iexists _; iexact HI_dst
    iexact HI
  isplitl [HO]
  · iexists _, _
    isplitr
    on_goal 2 => iexact HO
    ipureintro
    exact chunk_out c X v1 _ Y' _ fun y => (stored_read c v1 (slot_off7 k) _ _ f g y).trans (congrArg (fun a => FloatOps.addf a _) (hf y))
  isplitl [HI_src]; · iexact HI_src
  isplitl [HO_dst]
  · irw [← yP_congr c _ Y (sumArr X v1) hY]; iexact HO_dst
  iexists _; iexact HW

end Trip

end Cert.Proof.Positions

end
-- ==== Proof.KernelIdeal.Loop.lean ====
/-
  The kernel's loop. Before trip `k` the copies in of chunks `k` to `k + 3` are in flight, and so are the copies out of
  chunks `k - 4` to `k - 1`; every other chunk of the input is at home, the chunks of the result before those hold
  their sums, and the chunks from `k` on are as they were.
-/
module

public import proofs.«01_k».proof.Proof.KernelIdeal.Trip

@[expose] public section

noncomputable section

namespace Cert.Proof.Positions

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## The slots by the number of the chunk they serve -/

section Slots

variable (c : Dev nD) (X : XBuf (F := F) c) (G : YBuf (F := F) c)

/-- The input slot that serves chunk `b`: its copy in is in flight while there is such a chunk. -/
def inSlot (b : ℕ) : sProp 𝕄 := if b < 64 then inFl c X (Ring.sl 4 b) (Ring.bk 64 b) else inFree c (Ring.sl 4 b)
/-- The output slot that will serve chunk `b`: the copy out of chunk `b - 4` is in flight once there is such a chunk. -/
def outSlot (b : ℕ) : sProp 𝕄 := if b < 4 then outFree c (Ring.sl 4 b) else outFl c G (Ring.sl 4 b) (Ring.bk 64 (b - 4))

theorem inSlot_lt {b : ℕ} (h : b < 64) : inSlot c X b = inFl c X (Ring.sl 4 b) (Ring.bk 64 b) := if_pos h
theorem outSlot_lt {b : ℕ} (h : b < 4) : outSlot c G b = outFree c (Ring.sl 4 b) := if_pos h
theorem outSlot_ge {b : ℕ} (h : 4 ≤ b) : outSlot c G b = outFl c G (Ring.sl 4 b) (Ring.bk 64 (b - 4)) := if_neg (by omega)
/-- Four chunks on, the same slot serves again: with a chunk to copy in, -/
theorem inSlot_next {k : ℕ} (h : k + 4 < 64) : inSlot c X (k + 4) = inFl c X (Ring.sl 4 k) (Ring.bk 64 (k + 4)) := by
  rw [inSlot_lt c X h, Ring.sl_add]
/-- with none left, -/
theorem inSlot_end {k : ℕ} (h : 64 ≤ k + 4) : inSlot c X (k + 4) = inFree c (Ring.sl 4 k) := by
  rw [inSlot, if_neg (by omega), Ring.sl_add]
/-- and with the chunk copied out. -/
theorem outSlot_next (k : ℕ) : outSlot c G (k + 4) = outFl c G (Ring.sl 4 k) (Ring.bk 64 k) := by
  rw [outSlot_ge c G (by omega), Ring.sl_add, Nat.add_sub_cancel]

end Slots

/-! ## The chunks at home -/

section Homes

/-- Before trip `k` the chunk four ahead can be taken out of those at home. -/
theorem home_take (Φ : Fin 64 → sProp 𝕄) (k : ℕ) (hk : k + 4 < 64) :
    bigSep (Ring.homeSet 4 k) Φ = iprop(Φ (Ring.bk 64 (k + 4)) ∗ bigSep ((Ring.homeSet 4 k).erase (Ring.bk 64 (k + 4))) Φ) :=
  (congrArg (bigSep · Φ) (Ring.homeSet_out 4 k hk)).trans (bigSep_insert (Ring.bkL_not_mem_erase 4 k))
/-- With it out and chunk `k` back, the chunks at home are those before trip `k + 1`. -/
theorem home_put (Φ : Fin 64 → sProp 𝕄) (k : ℕ) (hk : k + 4 < 64) :
    bigSep (Ring.homeSet 4 (k + 1)) Φ = iprop(Φ (Ring.bk 64 k) ∗ bigSep ((Ring.homeSet 4 k).erase (Ring.bk 64 (k + 4))) Φ) :=
  (congrArg (bigSep · Φ) (Ring.homeSet_succ 4 k hk)).trans (bigSep_insert (Ring.bk_not_mem_erase 4 k (by omega) (by decide)))
/-- After one of the last four trips chunk `k` is back and none goes out. -/
theorem home_tail (Φ : Fin 64 → sProp 𝕄) (k : ℕ) (hk : 64 ≤ k + 4) (hk' : k < 64) :
    bigSep (Ring.homeSet 4 (k + 1)) Φ = iprop(Φ (Ring.bk 64 k) ∗ bigSep (Ring.homeSet 4 k) Φ) :=
  (congrArg (bigSep · Φ) (Ring.homeSet_succ_tail 4 k hk hk')).trans (bigSep_insert (Ring.bk_not_mem_homeSet 4 k hk' (by decide)))

theorem bk_mk {k : ℕ} (h : k < 64) : (⟨k, h⟩ : Fin 64) = Ring.bk 64 k := Fin.ext (Ring.bk_val h).symm

/-- The chunks from `k` on are chunk `k` and the later ones. -/
theorem todo_here (Φ : Fin 64 → sProp 𝕄) (k : ℕ) (hk : k < 64) :
    bigSep (Ring.rangeSet 64 k 64) Φ = iprop(Φ (Ring.bk 64 k) ∗ bigSep (Ring.rangeSet 64 (k + 1) 64) Φ) := by
  rw [Ring.bigSep_rangeSet_head hk hk, bk_mk hk]
/-- The chunks before `n + 1` are chunk `n` and the earlier ones. -/
theorem done_next (Φ : Fin 64 → sProp 𝕄) (n : ℕ) (hn : n < 64) :
    bigSep (Ring.rangeSet 64 0 (n + 1)) Φ = iprop(Φ (Ring.bk 64 n) ∗ bigSep (Ring.rangeSet 64 0 n) Φ) := by
  rw [Ring.bigSep_rangeSet_last (Nat.succ_pos n) (by omega)]
  show iprop(Φ ⟨n, _⟩ ∗ _) = _
  rw [bk_mk hn]; rfl

end Homes

/-! ## The invariant -/

section Inv

variable (c : Dev nD) (X : XBuf (F := F) c) (Y₀ : YBuf (F := F) c) (arg1 : Memref sig .tc .vmem S64x1024 .f32) (harg1 : arg1.IsWhole)
  (v1 : FVec F S64x1024 .f32)

/-- The state before trip `k`. -/
def invAt (k : ℕ) : sProp 𝕄 :=
  iprop(inSlot c X k ∗ inSlot c X (k + 1) ∗ inSlot c X (k + 2) ∗ inSlot c X (k + 3)
    ∗ outSlot c (sumArr X v1) k ∗ outSlot c (sumArr X v1) (k + 1) ∗ outSlot c (sumArr X v1) (k + 2) ∗ outSlot c (sumArr X v1) (k + 3)
    ∗ bigSep (Ring.homeSet 4 k) (xP c X)
    ∗ bigSep (Ring.rangeSet 64 0 (k - 4)) (yP c (sumArr X v1)) ∗ bigSep (Ring.rangeSet 64 k 64) (yP c Y₀) ∗ owe c)

/-- One trip takes the state before it to the state before the next. -/
theorem inv_step (k : Fin k0_t1_loop.trips) :
    invAt c X Y₀ v1 k.val ⊢ wp frame (wpE (defs₀ (F := F)) 𝒱₀ (c : Thread nD τ) none) Set.univ (tripG arg1 harg1 v1 k)
      (fun _ => invAt c X Y₀ v1 (k.val + 1)) := by
  have hk : k.val < 64 := val_lt k
  unfold invAt
  rw [inSlot_lt c X hk, todo_here (yP c Y₀) k.val hk, show k.val + 1 + 3 = k.val + 4 from rfl, outSlot_next,
    show k.val + 1 + 1 = k.val + 2 from rfl, show k.val + 1 + 2 = k.val + 3 from rfl]
  rcases Nat.lt_or_ge k.val 4 with h1 | h1
  · rw [outSlot_lt c _ h1, home_take (xP c X) k.val (by omega), home_put (xP c X) k.val (by omega), inSlot_next c X (by omega),
      show k.val + 1 - 4 = k.val - 4 by omega]
    iintro ⟨HI0, HI1, HI2, HI3, HO0, HO1, HO2, HO3, ⟨HX, HXs⟩, HD, ⟨HY, HYs⟩, HW⟩
    iapply (wp_wand_r Idealize.ShloMosaic.frame (wpE (defs₀ (F := F)) 𝒱₀ (c : Thread nD τ) none) Set.univ)
    isplitl [HI0 HO0 HX HY HW]
    · iapply (trip_first c X arg1 harg1 v1 k h1 Y₀)
      iframe HI0 HO0 HX HY HW
    · iintro %_ ⟨HI0, HO0, HX, HW⟩
      iframe HI1 HI2 HI3 HI0 HO1 HO2 HO3 HO0 HX HXs HD HYs HW
  rcases Nat.lt_or_ge (k.val + 4) 64 with h2 | h2
  · rw [outSlot_ge c _ h1, home_take (xP c X) k.val h2, home_put (xP c X) k.val h2, inSlot_next c X h2,
      show k.val + 1 - 4 = (k.val - 4) + 1 by omega, done_next (yP c (sumArr X v1)) (k.val - 4) (by omega)]
    iintro ⟨HI0, HI1, HI2, HI3, HO0, HO1, HO2, HO3, ⟨HX, HXs⟩, HD, ⟨HY, HYs⟩, HW⟩
    iapply (wp_wand_r Idealize.ShloMosaic.frame (wpE (defs₀ (F := F)) 𝒱₀ (c : Thread nD τ) none) Set.univ)
    isplitl [HI0 HO0 HX HY HW]
    · iapply (trip_mid c X arg1 harg1 v1 k h1 h2 Y₀)
      iframe HI0 HO0 HX HY HW
    · iintro %_ ⟨HI0, HO0, HX, HG, HW⟩
      iframe HI1 HI2 HI3 HI0 HO1 HO2 HO3 HO0 HX HXs HG HD HYs HW
  · rw [outSlot_ge c _ h1, home_tail (xP c X) k.val h2 hk, inSlot_end c X h2,
      show k.val + 1 - 4 = (k.val - 4) + 1 by omega, done_next (yP c (sumArr X v1)) (k.val - 4) (by omega)]
    iintro ⟨HI0, HI1, HI2, HI3, HO0, HO1, HO2, HO3, HXs, HD, ⟨HY, HYs⟩, HW⟩
    iapply (wp_wand_r Idealize.ShloMosaic.frame (wpE (defs₀ (F := F)) 𝒱₀ (c : Thread nD τ) none) Set.univ)
    isplitl [HI0 HO0 HY HW]
    · iapply (trip_last c X arg1 harg1 v1 k (by omega) Y₀)
      iframe HI0 HO0 HY HW
    · iintro %_ ⟨HI0, HO0, HX, HG, HW⟩
      iframe HI1 HI2 HI3 HI0 HO1 HO2 HO3 HO0 HX HXs HG HD HYs HW

end Inv

end Cert.Proof.Positions

end
-- ==== Proof.KernelIdeal.Body.lean ====
/-
  The kernel's whole body: the table is read, four copies in are started, the loop runs, the last four copies out are
  waited for. From the input's array at `X` it leaves the result's array at the sums.
-/
module

public import proofs.«01_k».proof.Proof.KernelIdeal.Loop

@[expose] public section

noncomputable section

namespace Cert.Proof.Positions

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

section Body

variable (c : Dev nD) (X : XBuf (F := F) c) (Y₀ : YBuf (F := F) c) (arg1 : Memref sig .tc .vmem S64x1024 .f32) (harg1 : arg1.IsWhole)

/-- The body on a staging buffer of the table. -/
abbrev bodyG : Prog (TpuEff nD τ sig (Elt F) Λ₀ .tc) PUnit :=
  cc0__body xM (Memref.isWhole_whole _) arg1 harg1 yM (Memref.isWhole_whole _) ibufM (Memref.isWhole_whole _) obufM (Memref.isWhole_whole _) cc0_scratch2 cc0_scratch3

/-- The table as the body reads it from its staging buffer at `g`. -/
abbrev tableOf (g : Buf (Elt F) (arg1.view.loc (c : Thread nD τ))) : FVec F S64x1024 .f32 :=
  k0_pay2 (arg1.view.readAt (Elt F) (Rect.unit (s := S64x1024) ![0, 0] S64x1024.size inb_S64x1024_S64x1024_0_0).toLoadRect g)

/-- The loop with its invariant. -/
@[reducible] def loopInv (v1 : FVec F S64x1024 .f32) :
    LoopInvTy_k0_t1 (F := F) Unit ℕ (UU nD τ) ℕ 𝒱₀ c none Set.univ xM (Memref.isWhole_whole _) arg1 harg1 yM (Memref.isWhole_whole _) ibufM (Memref.isWhole_whole _) obufM (Memref.isWhole_whole _) cc0_scratch2 cc0_scratch3 v1 where
  inv k _ := invAt c X Y₀ v1 k
  step k _ := inv_step c X Y₀ arg1 harg1 v1 k

/-- The table's staging buffer held at `g`. -/
abbrev tabP (g : Buf (Elt F) (arg1.view.loc (c : Thread nD τ))) : sProp 𝕄 := arg1.view.loc (c : Thread nD τ) ↦[arg1.view.set]{fullShare} g

/-- The four slots one by one. -/
theorem slots_eq (Φ : Fin 4 → sProp 𝕄) :
    bigSep Finset.univ Φ = iprop(Φ (Ring.sl 4 0) ∗ Φ (Ring.sl 4 1) ∗ Φ (Ring.sl 4 2) ∗ Φ (Ring.sl 4 3)) :=
  bigSep_univ_eq_bigSepL [Ring.sl 4 0, Ring.sl 4 1, Ring.sl 4 2, Ring.sl 4 3] (by decide) (by decide) Φ

/-- All the chunks are the first four and those at home before the first trip. -/
theorem chunks_first (Φ : Fin 64 → sProp 𝕄) :
    bigSep Finset.univ Φ = iprop(Φ (Ring.bk 64 0) ∗ Φ (Ring.bk 64 1) ∗ Φ (Ring.bk 64 2) ∗ Φ (Ring.bk 64 3) ∗ bigSep (Ring.homeSet 4 0) Φ) := by
  rw [show (Ring.homeSet 4 0 : Finset (Fin 64)) = Ring.rangeSet 64 4 64 by decide +kernel, ← Ring.rangeSet_univ,
    todo_here Φ 0 (by decide), todo_here Φ 1 (by decide), todo_here Φ 2 (by decide), todo_here Φ 3 (by decide)]

/-- All the chunks are the last four and the earlier ones. -/
theorem chunks_last (Φ : Fin 64 → sProp 𝕄) :
    bigSep Finset.univ Φ = iprop(Φ (Ring.bk 64 63) ∗ Φ (Ring.bk 64 62) ∗ Φ (Ring.bk 64 61) ∗ Φ (Ring.bk 64 60) ∗ bigSep (Ring.rangeSet 64 0 60) Φ) := by
  rw [← Ring.rangeSet_univ, done_next Φ 63 (by decide), done_next Φ 62 (by decide), done_next Φ 61 (by decide), done_next Φ 60 (by decide)]

/-- The state before the first trip, from the four started copies. -/
theorem inv_entry (v1 : FVec F S64x1024 .f32) :
    iprop(inFl c X (Ring.sl 4 0) (Ring.bk 64 0) ∗ inFl c X (Ring.sl 4 1) (Ring.bk 64 1) ∗ inFl c X (Ring.sl 4 2) (Ring.bk 64 2) ∗ inFl c X (Ring.sl 4 3) (Ring.bk 64 3)
        ∗ outFree c (Ring.sl 4 0) ∗ outFree c (Ring.sl 4 1) ∗ outFree c (Ring.sl 4 2) ∗ outFree c (Ring.sl 4 3)
        ∗ bigSep (Ring.homeSet 4 0) (xP c X) ∗ bigSep Finset.univ (yP c Y₀) ∗ owe c)
      ⊢ invAt c X Y₀ v1 0 := by
  unfold invAt
  rw [inSlot_lt c X (b := 0) (by decide), inSlot_lt c X (b := 0 + 1) (by decide), inSlot_lt c X (b := 0 + 2) (by decide), inSlot_lt c X (b := 0 + 3) (by decide),
    outSlot_lt c _ (b := 0) (by decide), outSlot_lt c _ (b := 0 + 1) (by decide), outSlot_lt c _ (b := 0 + 2) (by decide), outSlot_lt c _ (b := 0 + 3) (by decide),
    Ring.rangeSet_univ, Ring.bigSep_rangeSet_empty (by decide)]
  iintro ⟨HI0, HI1, HI2, HI3, HO0, HO1, HO2, HO3, HX, HY, HW⟩
  iframe HI0 HI1 HI2 HI3 HO0 HO1 HO2 HO3 HX HY HW

/-- No copy in is in flight into the slot of a number past the chunks. -/
theorem inSlot_past {b : ℕ} (h : 64 ≤ b) : inSlot c X b = inFree c (Ring.sl 4 b) := if_neg (by omega)

/-- The state after the last trip: only the last four copies out are in flight. -/
theorem inv_exit (v1 : FVec F S64x1024 .f32) :
    invAt c X Y₀ v1 k0_t1_loop.trips
      ⊢ iprop(bigSep Finset.univ (inFree (F := F) c)
        ∗ outFl c (sumArr X v1) (Ring.sl 4 64) (Ring.bk 64 60) ∗ outFl c (sumArr X v1) (Ring.sl 4 65) (Ring.bk 64 61)
        ∗ outFl c (sumArr X v1) (Ring.sl 4 66) (Ring.bk 64 62) ∗ outFl c (sumArr X v1) (Ring.sl 4 67) (Ring.bk 64 63)
        ∗ bigSep Finset.univ (xP c X) ∗ bigSep (Ring.rangeSet 64 0 60) (yP c (sumArr X v1)) ∗ owe c) := by
  rw [trips_eq, slots_eq]
  unfold invAt
  rw [inSlot_past c X (b := 64) (by decide), inSlot_past c X (b := 64 + 1) (by decide), inSlot_past c X (b := 64 + 2) (by decide), inSlot_past c X (b := 64 + 3) (by decide),
    outSlot_ge c _ (b := 64) (by decide), outSlot_ge c _ (b := 64 + 1) (by decide), outSlot_ge c _ (b := 64 + 2) (by decide), outSlot_ge c _ (b := 64 + 3) (by decide),
    Ring.homeSet_last 4 64 (by decide)]
  iintro ⟨HI0, HI1, HI2, HI3, HO0, HO1, HO2, HO3, HX, HD, -, HW⟩
  iframe HO0 HO1 HO2 HO3 HX HD HW
  isplitl [HI0]; · iexact HI0
  isplitl [HI1]; · iexact HI1
  isplitl [HI2]; · iexact HI2
  iexact HI3

/-- What the body is handed: the table, the free slots, the input's chunks, the result's chunks at anything. -/
def PRE (g : Buf (Elt F) (arg1.view.loc (c : Thread nD τ))) : sProp 𝕄 :=
  iprop(tabP c arg1 g ∗ bigSep Finset.univ (inFree (F := F) c) ∗ bigSep Finset.univ (outFree (F := F) c)
    ∗ bigSep Finset.univ (xP c X) ∗ bigSep Finset.univ (yP c Y₀) ∗ owe c)
/-- What it hands back: the same, the result's chunks at the sums. -/
def POST (g : Buf (Elt F) (arg1.view.loc (c : Thread nD τ))) : sProp 𝕄 :=
  iprop(tabP c arg1 g ∗ bigSep Finset.univ (inFree (F := F) c) ∗ bigSep Finset.univ (outFree (F := F) c)
    ∗ bigSep Finset.univ (xP c X) ∗ bigSep Finset.univ (yP c (sumArr X (tableOf c arg1 g))) ∗ owe c)

/-- What the body hands back, from the pieces its last waits leave. -/
theorem post_of (g : Buf (Elt F) (arg1.view.loc (c : Thread nD τ))) :
    iprop(tabP c arg1 g ∗ bigSep Finset.univ (inFree (F := F) c)
        ∗ outFree c (Ring.sl 4 64) ∗ outFree c (Ring.sl 4 65) ∗ outFree c (Ring.sl 4 66) ∗ outFree c (Ring.sl 4 67)
        ∗ bigSep Finset.univ (xP c X)
        ∗ yP c (sumArr X (tableOf c arg1 g)) (Ring.bk 64 63) ∗ yP c (sumArr X (tableOf c arg1 g)) (Ring.bk 64 62)
        ∗ yP c (sumArr X (tableOf c arg1 g)) (Ring.bk 64 61) ∗ yP c (sumArr X (tableOf c arg1 g)) (Ring.bk 64 60)
        ∗ bigSep (Ring.rangeSet 64 0 60) (yP c (sumArr X (tableOf c arg1 g))) ∗ owe c)
      ⊢ POST c X arg1 g := by
  unfold POST
  rw [slots_eq (outFree (F := F) c), chunks_last (yP c (sumArr X (tableOf c arg1 g))),
    show Ring.sl 4 64 = Ring.sl 4 0 by decide, show Ring.sl 4 65 = Ring.sl 4 1 by decide,
    show Ring.sl 4 66 = Ring.sl 4 2 by decide, show Ring.sl 4 67 = Ring.sl 4 3 by decide]
  iintro ⟨HT, HI, HO0, HO1, HO2, HO3, HX, HY3, HY2, HY1, HY0, HD, HW⟩
  iframe HT HI HO0 HO1 HO2 HO3 HX HY3 HY2 HY1 HY0 HD HW

/-- THE BODY: four copies in, the loop, the last four copies out. -/
theorem bodyRun (g : Buf (Elt F) (arg1.view.loc (c : Thread nD τ))) (Q : PUnit → sProp 𝕄) :
    iprop(PRE c X Y₀ arg1 g ∗ (POST c X arg1 g -∗ Q ⟨⟩))
      ⊢ wp frame (wpE (defs₀ (F := F)) 𝒱₀ (c : Thread nD τ) none) Set.univ (bodyG arg1 harg1) Q := by
  unfold PRE
  rw [slots_eq (inFree (F := F) c), slots_eq (outFree (F := F) c), chunks_first (xP c X)]
  unfold inFree owe
  iintro ⟨⟨HT, ⟨⟨⟨%f0, HS0⟩, HC0⟩, ⟨⟨%f1, HS1⟩, HC1⟩, ⟨⟨%f2, HS2⟩, HC2⟩, ⟨⟨%f3, HS3⟩, HC3⟩⟩, ⟨HO0, HO1, HO2, HO3⟩, ⟨HX0, HX1, HX2, HX3, HX⟩, HY, ⟨%W, HW⟩⟩, Hk⟩
  dsimp only [bodyG]
  sl_exec
  ihave Hinv := (inv_entry c X Y₀ (tableOf c arg1 g)) $$ [HC0 HC1 HC2 HC3 HO0 HO1 HO2 HO3 HX HY HW]
  · iframe HO0 HO1 HO2 HO3 HX HY
    unfold inFl owe
    isplitl [HC0]
    · iexists _; isplitr; · ipureintro; exact landed_read c X _ _ f0
      iexact HC0
    isplitl [HC1]
    · iexists _; isplitr; · ipureintro; exact landed_read c X _ _ f1
      iexact HC1
    isplitl [HC2]
    · iexists _; isplitr; · ipureintro; exact landed_read c X _ _ f2
      iexact HC2
    isplitl [HC3]
    · iexists _; isplitr; · ipureintro; exact landed_read c X _ _ f3
      iexact HC3
    iexists _; iexact HW
  iapply (exec_loop Idealize.ShloMosaic.frame (wpE (defs₀ (F := F)) 𝒱₀ (c : Thread nD τ) none) Set.univ _ _ _ k0_t1_ok PUnit.unit _
    (loopInv c X Y₀ arg1 harg1 (tableOf c arg1 g))) $$ [Hinv]
  · dsimp only [loopInv]
    iexact Hinv
  iintro %_ Hend
  ihave Hx := (inv_exit c X Y₀ (tableOf c arg1 g)) $$ Hend
  unfold outFl
  icases Hx with ⟨HI, ⟨%Y60, %g0, %h60, HF0⟩, ⟨%Y61, %g1, %h61, HF1⟩, ⟨%Y62, %g2, %h62, HF2⟩, ⟨%Y63, %g3, %h63, HF3⟩, HX, HD, HW⟩
  unfold owe
  icases HW with ⟨%W', HW⟩
  sl_exec
  sl_step
  iapply Hk
  iapply (post_of c X arg1 g)
  irw [← yP_congr c _ Y60 _ h60, ← yP_congr c _ Y61 _ h61, ← yP_congr c _ Y62 _ h62, ← yP_congr c _ Y63 _ h63]
  iframe HT HI HX HF0_dst HF1_dst HF2_dst HF3_dst HD
  unfold outFree owe
  isplitl [HF0 HF0_src]
  · isplitl [HF0_src]; · iexists g0; iexact HF0_src
    iexact HF0
  isplitl [HF1 HF1_src]
  · isplitl [HF1_src]; · iexists g1; iexact HF1_src
    iexact HF1
  isplitl [HF2 HF2_src]
  · isplitl [HF2_src]; · iexists g2; iexact HF2_src
    iexact HF2
  isplitl [HF3 HF3_src]
  · isplitl [HF3_src]; · iexists g3; iexact HF3_src
    iexact HF3
  iexists _; iexact HW

end Body

end Cert.Proof.Positions

end
-- ==== Proof.KernelIdeal.Split.lean ====
/-
  The whole arrays and buffers as their parts: each array in HBM is its sixty-four chunks, each buffer in VMEM with
  its four semaphores is its four free slots.
-/
module

public import proofs.«01_k».proof.Proof.KernelIdeal.Body

@[expose] public section

noncomputable section

namespace Cert.Proof.Positions

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-! ## The parts as sets of indices -/

/-- The indices of chunk `b`. -/
abbrev chunkSet (b : Fin 64) : Finset S1024x64x1024.Idx := (chunkRect b).set
/-- The indices of slot `s`. -/
abbrev slotSet (s : Fin 4) : Finset S4x16x64x1024.Idx := (slotRect s).set

/-- An index lies in the chunk that its first coordinate, divided by sixteen, names. -/
theorem mem_chunkSet (b : Fin 64) (y : S1024x64x1024.Idx) : y ∈ chunkSet b ↔ (y 0).val / 16 = b.val := by
  have h1 : (y 1).val < 64 := (y 1).isLt
  have h2 : (y 2).val < 1024 := (y 2).isLt
  have key : y ∈ chunkSet b ↔ 16 * b.val ≤ (y 0).val ∧ (y 0).val < 16 * b.val + 16 := by
    rw [Rect.mem_set_unit]
    refine ⟨fun H => H 0, fun H i => ?_⟩
    match i with
    | 0 => exact H
    | 1 => exact ⟨Nat.zero_le _, by show (y 1).val < 0 + 64; omega⟩
    | 2 => exact ⟨Nat.zero_le _, by show (y 2).val < 0 + 1024; omega⟩
  rw [key]; omega

/-- An index lies in the slot that its first coordinate names. -/
theorem mem_slotSet (s : Fin 4) (y : S4x16x64x1024.Idx) : y ∈ slotSet s ↔ (y 0).val = s.val := by
  have h1 : (y 1).val < 16 := (y 1).isLt
  have h2 : (y 2).val < 64 := (y 2).isLt
  have h3 : (y 3).val < 1024 := (y 3).isLt
  have key : y ∈ slotSet s ↔ s.val ≤ (y 0).val ∧ (y 0).val < s.val + 1 := by
    rw [Rect.mem_set_unit]
    refine ⟨fun H => H 0, fun H i => ?_⟩
    match i with
    | 0 => exact H
    | 1 => exact ⟨Nat.zero_le _, by show (y 1).val < 0 + 16; omega⟩
    | 2 => exact ⟨Nat.zero_le _, by show (y 2).val < 0 + 64; omega⟩
    | 3 => exact ⟨Nat.zero_le _, by show (y 3).val < 0 + 1024; omega⟩
  rw [key]; omega

/-- Different chunks share no index. -/
theorem chunkSet_disjoint (b b' : Fin 64) (h : b ≠ b') : Disjoint (chunkSet b) (chunkSet b') :=
  Finset.disjoint_left.mpr fun y hy hy' => h (Fin.ext (((mem_chunkSet b y).mp hy).symm.trans ((mem_chunkSet b' y).mp hy')))
/-- Every index lies in a chunk. -/
theorem chunkSet_cover : (Finset.univ : Finset (Fin 64)).biUnion chunkSet = Finset.univ :=
  Finset.eq_univ_of_forall fun y => Finset.mem_biUnion.mpr
    ⟨⟨(y 0).val / 16, by have h : (y 0).val < 1024 := (y 0).isLt; omega⟩, Finset.mem_univ _, (mem_chunkSet _ y).mpr rfl⟩
/-- Different slots share no index. -/
theorem slotSet_disjoint (s s' : Fin 4) (h : s ≠ s') : Disjoint (slotSet s) (slotSet s') :=
  Finset.disjoint_left.mpr fun y hy hy' => h (Fin.ext (((mem_slotSet s y).mp hy).symm.trans ((mem_slotSet s' y).mp hy')))
/-- Every index lies in a slot. -/
theorem slotSet_cover : (Finset.univ : Finset (Fin 4)).biUnion slotSet = Finset.univ :=
  Finset.eq_univ_of_forall fun y => Finset.mem_biUnion.mpr
    ⟨⟨(y 0).val, (y 0).isLt⟩, Finset.mem_univ _, (mem_slotSet _ y).mpr rfl⟩

theorem xChunk_set (b : Fin 64) : (xChunk b).view.set = chunkSet b := View.set_slice_whole _ _
theorem iSlot_set (s : Fin 4) : (iSlot s).view.set = slotSet s := (View.set_reshape _ _).trans (View.set_slice_whole _ _)
theorem oSlot_set (s : Fin 4) : (oSlot s).view.set = slotSet s := (View.set_reshape _ _).trans (View.set_slice_whole _ _)

/-! ## The arrays in HBM -/

section Arrays

variable (c : Dev nD)

/-- The transposed input's array is its chunks. -/
theorem x_whole (X : XBuf (F := F) c) :
    (((c : Thread nD τ).loc main_v0) ↦{fullShare} X : sProp 𝕄) = bigSep Finset.univ (xP c X) :=
  (Ring.pointsTo_blocks (ℓ := (c : Thread nD τ).loc main_v0) chunkSet chunkSet_disjoint chunkSet_cover X).trans
    (bigSep_congr fun b _ => congrArg (fun S => (((c : Thread nD τ).loc main_v0) ↦[S]{fullShare} X : sProp 𝕄)) (xChunk_set b).symm)
/-- The result's array is its chunks. -/
theorem y_whole (Y : YBuf (F := F) c) :
    (((c : Thread nD τ).loc main_v2) ↦{fullShare} Y : sProp 𝕄) = bigSep Finset.univ (yP c Y) :=
  (Ring.pointsTo_blocks (ℓ := (c : Thread nD τ).loc main_v2) chunkSet chunkSet_disjoint chunkSet_cover Y).trans
    (bigSep_congr fun b _ => congrArg (fun S => (((c : Thread nD τ).loc main_v2) ↦[S]{fullShare} Y : sProp 𝕄)) (yChunk_set b).symm)

end Arrays

/-! ## The buffers in VMEM -/

section Buffers

variable (c : Dev nD)

/-- The kernel's own semaphores: the input slots' and the output slots'. -/
abbrev osem : Fin 4 ⊕ Fin 4 → SemLoc sig
  | .inl s => .dma (iCell s).sem
  | .inr s => .dma (oCell s).sem

/-- They are scoped, distinct, and none is a staging semaphore. -/
theorem ownSemFacts : Pipeline.OwnSemFacts spec0 osem := by decide

/-- All of them at zero are the cells of both directions at zero. -/
theorem cells_eq : (Pipeline.ownSems0 (Ix := Unit) (Name := ℕ) (U := UU nD τ) (Lvl := ℕ) (Val := Elt F) (τ := τ) osem c : sProp 𝕄)
    = iprop(bigSep Finset.univ (iCellP (F := F) c) ∗ bigSep Finset.univ (oCellP (F := F) c)) :=
  bigSep_univ_sum _

/-- Every input slot free: every slot at some contents, beside the cells. -/
theorem inFree_eq : (bigSep Finset.univ (inFree (F := F) c) : sProp 𝕄)
    = iprop((bigSep Finset.univ fun s => iprop(∃ f, ((c : Thread nD τ).loc cc0_scratch0) ↦[slotSet s]{fullShare} f)) ∗ bigSep Finset.univ (iCellP (F := F) c)) :=
  (bigSep_sep _ _ _).trans (congrArg (fun P : sProp 𝕄 => iprop(P ∗ _)) (bigSep_congr fun s _ =>
    congrArg (fun S => (iprop(∃ f, ((c : Thread nD τ).loc cc0_scratch0) ↦[S]{fullShare} f) : sProp 𝕄)) (iSlot_set s)))
/-- Every output slot free, likewise. -/
theorem outFree_eq : (bigSep Finset.univ (outFree (F := F) c) : sProp 𝕄)
    = iprop((bigSep Finset.univ fun s => iprop(∃ f, ((c : Thread nD τ).loc cc0_scratch1) ↦[slotSet s]{fullShare} f)) ∗ bigSep Finset.univ (oCellP (F := F) c)) :=
  (bigSep_sep _ _ _).trans (congrArg (fun P : sProp 𝕄 => iprop(P ∗ _)) (bigSep_congr fun s _ =>
    congrArg (fun S => (iprop(∃ f, ((c : Thread nD τ).loc cc0_scratch1) ↦[S]{fullShare} f) : sProp 𝕄)) (oSlot_set s)))

/-- A buffer held whole at some contents gives its parts, each at some contents. -/
theorem parts_of_whole {ℓ : Loc nD τ sig} (I : Fin 4 → Finset (Idx ℓ)) (hd : ∀ s s', s ≠ s' → Disjoint (I s) (I s'))
    (hc : Finset.univ.biUnion I = Finset.univ) :
    (iprop(∃ f : Buf (Elt F) ℓ, ℓ ↦{fullShare} f) : sProp 𝕄) ⊢ bigSep Finset.univ fun s => iprop(∃ f : Buf (Elt F) ℓ, ℓ ↦[I s]{fullShare} f) := by
  iintro ⟨%f, H⟩
  ihave H' := (Entails.of_eq (Ring.pointsTo_blocks (Ix := Unit) (Name := ℕ) (U := UU nD τ) (Lvl := ℕ) (q := fullShare) I hd hc f)) $$ H
  have key : (bigSep Finset.univ fun s => (ℓ ↦[I s]{fullShare} f : sProp 𝕄)) ⊢ bigSep Finset.univ fun s => iprop(∃ f : Buf (Elt F) ℓ, ℓ ↦[I s]{fullShare} f) :=
    bigSep_mono fun s _ => show (ℓ ↦[I s]{fullShare} f : sProp 𝕄) ⊢ iprop(∃ f : Buf (Elt F) ℓ, ℓ ↦[I s]{fullShare} f) by
      iintro H; iexists f; iexact H
  iapply key
  iexact H'

/-- What the region is handed of scoped memory is every slot free, -/
theorem slots_in :
    iprop(Pipeline.scopedRest (Ix := Unit) (Name := ℕ) (U := UU nD τ) (Lvl := ℕ) (Val := Elt F) spec0 c
        ∗ Pipeline.ownSems0 (Ix := Unit) (Name := ℕ) (U := UU nD τ) (Lvl := ℕ) (Val := Elt F) (τ := τ) osem c)
      ⊢ (iprop(bigSep Finset.univ (inFree (F := F) c) ∗ bigSep Finset.univ (outFree (F := F) c)) : sProp 𝕄) := by
  rw [scopedRest0_eq, cells_eq, inFree_eq, outFree_eq]
  iintro ⟨⟨HI, HO⟩, HCI, HCO⟩
  iframe HCI HCO
  isplitl [HI]
  · iapply (parts_of_whole (ℓ := (c : Thread nD τ).loc cc0_scratch0) slotSet slotSet_disjoint slotSet_cover); iexact HI
  · iapply (parts_of_whole (ℓ := (c : Thread nD τ).loc cc0_scratch1) slotSet slotSet_disjoint slotSet_cover); iexact HO
/-- and back. -/
theorem slots_out :
    (iprop(bigSep Finset.univ (inFree (F := F) c) ∗ bigSep Finset.univ (outFree (F := F) c)) : sProp 𝕄)
      ⊢ iprop(Pipeline.scopedRest (Ix := Unit) (Name := ℕ) (U := UU nD τ) (Lvl := ℕ) (Val := Elt F) spec0 c
        ∗ Pipeline.ownSems0 (Ix := Unit) (Name := ℕ) (U := UU nD τ) (Lvl := ℕ) (Val := Elt F) (τ := τ) osem c) := by
  rw [scopedRest0_eq, cells_eq, inFree_eq, outFree_eq]
  iintro ⟨⟨HI, HCI⟩, HO, HCO⟩
  iframe HCI HCO
  isplitl [HI]
  · iapply (Ring.pointsTo_blocks_join_exists (ℓ := (c : Thread nD τ).loc cc0_scratch0) slotSet slotSet_disjoint slotSet_cover (fun _ => Classical.arbitrary _)); iexact HI
  · iapply (Ring.pointsTo_blocks_join_exists (ℓ := (c : Thread nD τ).loc cc0_scratch1) slotSet slotSet_disjoint slotSet_cover (fun _ => Classical.arbitrary _)); iexact HO

end Buffers

end Cert.Proof.Positions

end
-- ==== Proof.KernelIdeal.Launch.lean ====
/-
  The run of the whole program at any float values: the two transpositions before the kernel, the kernel, the
  transposition after it. It ends with the result's array at the transposed sums, the arguments unchanged and every
  semaphore at zero.
-/
module

public import proofs.«01_k».proof.Proof.KernelIdeal.Split
public import proofs.«01_k».proof.Proof.Gen.KernelIdeal.Frame

@[expose] public section

noncomputable section

namespace Cert.Proof.Positions

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-! ## What the kernel finds and leaves -/

/-- The transposed input as the kernel finds it. -/
abbrev xIn (c : Dev nD) : XBuf (F := F) c := V m c main_v0
/-- The result's array as the kernel finds it. -/
abbrev yIn (c : Dev nD) : YBuf (F := F) c := V m c main_v2
/-- The table as the kernel reads it from its staging buffer, which holds the whole transposed table. -/
def tabIn (c : Dev nD) : FVec F S64x1024 .f32 :=
  tableOf c (st0_0 t0_0) ((st0_0 t0_0).view.rep (iblk m c 0 t0_0))
/-- What the kernel leaves in the result's array. -/
abbrev yOut (c : Dev nD) : YBuf (F := F) c := sumArr (xIn m c) (tabIn m c)

/-- The arrays after the kernel: the result's at the sums, every other as found. -/
def after (c : Dev nD) (b : Ref sig .tc) : Buf (Elt F) ((c : Thread nD τ).loc b) :=
  Function.update (V0 m c) (Proc.devRef .tc main_v2) (yOut m c) (Proc.devRef .tc b)

theorem after_v2 (c : Dev nD) : after m c main_v2 = yOut m c := Function.update_self ..

/-! ## The proof data of the one region -/

/-- Every slot free, the input's chunks at the input, the result's chunks at `Y`. -/
def around (c : Dev nD) (Y : YBuf (F := F) c) : sProp 𝕄 :=
  iprop(bigSep Finset.univ (inFree (F := F) c) ∗ bigSep Finset.univ (outFree (F := F) c)
    ∗ bigSep Finset.univ (xP c (xIn m c)) ∗ bigSep Finset.univ (yP c Y))

/-- The data of the one point: the staged table stays; around the body the result's array goes from what it was to
    the sums. -/
def dats (_ : Fin 1) (c : Dev nD) : Dat τ (Elt F) Unit ℕ (UU nD τ) ℕ cfg0 c where
  A w := V m c (Pipeline.arrRef spec0 w)
  after w t := match w with
    | ⟨0, _⟩ => iblk m c 0 t
  Φ t := if t.val = 0 then around m c (yIn m c) else around m c (yOut m c)
  q _ := fullShare
  owed _ := 0

theorem before_table (c : Dev nD) (t : Fin cfg0.N) (d) : (dats m 0 c).before 0 t d = iblk m c 0 t := by
  unfold Dat.before; rw [if_pos (fetch0_0 t)]; unfold Dat.fetched Dat.blockOf iblk; dsimp only [dats]; rfl
theorem after_table (c : Dev nD) (t : Fin cfg0.N) : (dats m 0 c).after 0 t = iblk m c 0 t := by dsimp only [dats]

theorem inv_at (c : Dev nD) (t : Fin (cfg0.N + 1)) :
    (dats m 0 c).Φ t = if t.val = 0 then around m c (yIn m c) else around m c (yOut m c) := by dsimp only [dats]
theorem inv_before (c : Dev nD) (t : Fin cfg0.N) : (dats m 0 c).Φ t.castSucc = around m c (yIn m c) :=
  (inv_at m c _).trans (if_pos (by obtain rfl := fin_N0 t; rfl))
theorem inv_after (c : Dev nD) (t : Fin cfg0.N) : (dats m 0 c).Φ t.succ = around m c (yOut m c) :=
  (inv_at m c _).trans (if_neg (by rw [Fin.val_succ]; omega))
theorem inv_first (c : Dev nD) : (dats m 0 c).Φ 0 = around m c (yIn m c) := (inv_at m c _).trans (if_pos rfl)
theorem inv_last (c : Dev nD) : (dats m 0 c).Φ (Fin.last cfg0.N) = around m c (yOut m c) :=
  (inv_at m c _).trans (if_neg (by decide))

theorem defs_body : (defs₀ (F := F)) .tc cfg0.body = fun a => bodyG (win0_0.stage (a.2 0)) (hstage0_0 0) := rfl
theorem body_eq (t : Fin cfg0.N) :
    (defs₀ (F := F)) .tc cfg0.body (cfg0.bodyArgs t (cfg0.slots t)) = bodyG (st0_0 t) (hstage0_0 0) := (congrFun defs_body _).trans rfl

set_option backward.isDefEq.respectTransparency.types false in
/-- The body at the one point. -/
theorem body_obligation (c : Dev nD) : BodyObligation (dats (F := F) m 0 c) (defs₀ (F := F)) 𝒱₀ () Set.univ := fun t => by
  rw [bigSep_W0, bigSep_W0]
  dsimp only
  simp only [before_table, after_table]
  rw [inv_before, inv_after]
  unfold Dat.owesAt Pipeline.owesWithin
  rw [show (dats m 0 c).owed t.castSucc = 0 from rfl, show (dats m 0 c).owed t.succ = 0 from rfl]
  unfold owns around
  iintro ⟨⟨HI, HO, HX, HY⟩, ⟨%W, -, HW⟩, ⟨%d0, %g0, %hg0, HT⟩⟩
  ihave HT' := (pointsTo_rep_entails (c : Thread nD τ) (st0_0 t) g0 fullShare) $$ HT
  rw [hg0]
  sl_rw [body_eq t]
  iapply (bodyRun c (xIn m c) (yIn m c) (st0_0 t) (hstage0_0 0) _)
  unfold PRE POST owe
  isplitl [HT' HI HO HX HY HW]
  · iframe HI HO HX HY
    isplitl [HT']; · iexact HT'
    iexists W; iexact HW
  · iintro ⟨HT, HI, HO, HX, HY, ⟨%W', HW⟩⟩
    isplitl [HI HO HX HY]
    · iframe HI HO HX
      obtain rfl := fin_N0 t
      iexact HY
    isplitl [HW]
    · iexists W'; isplitr; · ipureintro; exact fun _ _ => Or.inl trivial
      iexact HW
    iexists _; isplitr; · ipureintro; exact View.read_rep _ _
    iexact HT

/-! ## The run -/

set_option maxHeartbeats 800000 in
/-- The program around the region, beside the copies' counters. -/
theorem main_around : Pipeline.HMainK (Ix := Unit) (Name := ℕ) (U := UU nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The arrays that the kernel reads by its own copies. -/
abbrev readArrs : Finset (Ref sig .tc) := {main_v0}
/-- The arrays that it writes by its own copies. -/
abbrev writtenArrs : Finset (Ref sig .tc) := {main_v2}

theorem rest_v0 : main_v0 ∈ Pipeline.restRefs sig spec0 := Pipeline.mem_restRefs_of main_v0 (by decide) (by decide)
theorem rest_v2 : main_v2 ∈ Pipeline.restRefs sig spec0 := Pipeline.mem_restRefs_of main_v2 (by decide) (by decide)

/-- What the region is handed is the state around the body before it, -/
theorem enter (c : Dev nD) : Pipeline.ΦDRV osem spec0 readArrs writtenArrs (V m) (V m) c ⊢ (dats m 0 c).Φ 0 := by
  rw [inv_first]
  unfold Pipeline.ΦDRV around
  rw [bigSep_singleton, bigSep_singleton, x_whole, y_whole]
  iintro ⟨HS, HC, HX, HY⟩
  ihave H := (slots_in (F := F) c) $$ [HS HC]
  · isplitl [HS]; · iexact HS
    iexact HC
  icases H with ⟨HI, HO⟩
  iframe HI HO HX HY
/-- and the state after it is what it hands back. -/
theorem leave (c : Dev nD) : (dats m 0 c).Φ (Fin.last cfg0.N) ⊢ Pipeline.ΦDRV osem spec0 readArrs writtenArrs (V m) (after m) c := by
  rw [inv_last]
  unfold Pipeline.ΦDRV around
  rw [bigSep_singleton, bigSep_singleton, after_v2, x_whole, y_whole]
  iintro ⟨HI, HO, HX, HY⟩
  ihave H := (slots_out (F := F) c) $$ [HI HO]
  · isplitl [HI]; · iexact HI
    iexact HO
  icases H with ⟨HS, HC⟩
  iframe HX HY
  isplitl [HS]; · iexact HS
  iexact HC

/-- Core `c`'s arrays at the end. -/
abbrev final (c : Dev nD) : Valuation τ sig (Elt F) :=
  StableHlo.after ([hostOps1] : List (List (HloOp τ sig (Elt F)))).flatten
    (Pipeline.withArrays spec0 c (Pipeline.withR (V0 m c) writtenArrs c (after m c)) fun w => (dats m 0 c).arrAt w cfg0.N)

/-- Every execution terminates without fault, with every array that the pipeline does not stage at its final contents
    and every semaphore at zero. -/
theorem run_final : θ_run defs (onTc (τ := τ) (main (F := F))) ⟨m, fun _ => 0, ρ⟩ fun r =>
    (∀ c : Dev nD, ∀ b ∈ Pipeline.restRefs sig spec0, r.2.mem ((c : Thread nD τ).loc b) = final m c (Proc.devRef .tc b)) ∧ r.2.sem = fun _ => 0 :=
  Pipeline.θ_run_frame_dmaR_aroundV cfgs (dats m) 0 launch0 osem defs₀ 𝒱₀ ownSemFacts readArrs writtenArrs
    (Finset.singleton_subset_iff.mpr rest_v0)
    (Finset.singleton_subset_iff.mpr (Finset.mem_sdiff.mpr ⟨rest_v2, by decide⟩))
    m ρ main (fun c => (body_obligation m c).loose) (fun c => (dats m 0 c).share_full fun _ => rfl) (fun _ _ => rfl)
    (V0 m) [hostOps1] sfx_sub sfx_fresh sfx_keeps (after m) (main_around m) (fun _ _ => rfl) (enter m) (leave m)
    (Q' := _) (hQ' := fun _ h => ⟨fun c => (h.1 c).2, h.2⟩)

end Cert.Proof.Positions

end
-- ==== Proof.KernelIdeal.Result.lean ====
/-
  What the whole program leaves in its result: at `(b, p, d)` the input's element there plus the table's at `(p, d)`.
-/
module

public import proofs.«01_k».proof.Proof.KernelIdeal.Launch
public import Idealize.ShloMosaic.Lib.Pipeline.Value
public import Idealize.ShloMosaic.Lib.ValueLayout

@[expose] public section

noncomputable section

namespace Cert.Proof.Positions

open Cert.KernelIdeal Cert.KernelIdeal.Gen
open Idealize.ShloMosaic
open Idealize.ShloMosaic.TcCoe Idealize.ShloMosaic.Tactic
open Idealize.SL.Sem
open Idealize.ShloMosaic.ValueIdx

variable {F : FTy → Type} [FloatOps F]

variable (m : (ℓ : Loc nD τ sig) → Buf (Elt F) ℓ) (ρ : Dev nD → PrngReg)

/-- The sum of an input and of the table row of each position. -/
def positioned (x : S1024x1024x64.Idx → F .f32) (p : S1024x64.Idx → F .f32) : S1024x1024x64.Idx → F .f32 :=
  fun i => FloatOps.addf (x i) (p (ix2 (i 1) (i 2)))

/-! ## The arrays at the kernel's entry -/

/-- The kernel finds the input with its last two axes exchanged. -/
theorem xIn_eq (c : Dev nD) :
    xIn m c = transpose S1024x64x1024 [0, 2, 1] (m ((c : Thread nD τ).loc main_arg0)) transposes_S1024x1024x64_S1024x64x1024_0_2_1 := by
  simp only [xIn, V, V0, hostOps0, List.flatten_cons, List.flatten_nil, List.append_nil]
  after_results_simp <;> rfl
/-- It finds the table with its axes exchanged. -/
theorem table_found (c : Dev nD) :
    V m c main_v1 = transpose S64x1024 [1, 0] (m ((c : Thread nD τ).loc main_arg1)) transposes_S1024x64_S64x1024_1_0 := by
  simp only [V, V0, hostOps0, List.flatten_cons, List.flatten_nil, List.append_nil]
  after_results_simp <;> rfl

/-- The staged block is the whole table. -/
theorem block_read (c : Dev nD) (f : Buf (Elt F) ((c : Thread nD τ).loc main_v1)) :
    (win0_0.blk t0_0).view.read (Elt F) f = f :=
  Memref.read_access_unit_zero (Elt F) main_v1
    (show (fun a => (win0_0.index t0_0) a * main_v1.ty.shape.size a) = fun _ => 0 from
      funext fun a => by fin_cases a <;> decide) (fun a => by fin_cases a <;> decide) f
/-- So the table the loop adds is the one the kernel found. -/
theorem tabIn_eq (c : Dev nD) : tabIn m c = V m c main_v1 := by
  have staged : iblk m c 0 t0_0 = V m c main_v1 := block_read c (V m c main_v1)
  unfold tabIn tableOf k0_pay2
  rw [staged]
  dsimp only
  rw [Idealize.ShloMosaic.shapeCast_self]
  funext y
  rw [View.readAt_apply, View.read_rep]
  refine congrArg (V m c main_v1) (funext fun a => Fin.ext ?_)
  match a with
  | ⟨0, _⟩ =>
    show 0 + 1 * (y 0).val = (y 0).val
    omega
  | ⟨1, _⟩ =>
    show 0 + 1 * (y 1).val = (y 1).val
    omega

/-! ## The result -/

/-- The result's array at the end is what the kernel left, with its last two axes exchanged. -/
theorem final_v3 (c : Dev nD) :
    final m c (Proc.devRef .tc main_v3) = transpose S1024x1024x64 [0, 2, 1] (yOut m c) transposes_S1024x64x1024_S1024x1024x64_0_2_1 := by
  simp only [final, hostOps1, List.flatten_cons, List.flatten_nil, List.append_nil]
  after_results_simp
  have h : (Pipeline.withArrays spec0 c (Pipeline.withR (V0 m c) writtenArrs c (after m c)) fun w => (dats m 0 c).arrAt w cfg0.N)
      (Proc.devRef .tc main_v2) = yOut m c :=
    (Pipeline.withArrays_of_ne _ c _ _ main_v2 (by exact (by decide : ∀ w, Pipeline.arrRef spec0 w ≠ main_v2))).trans
      ((Pipeline.withR_of_mem _ _ _ _ main_v2 (by decide)).trans (after_v2 m c))
  rw [h]

/-- Read at one element, it is the input there plus the table's element of its position. -/
theorem final_sum (c : Dev nD) :
    final m c (Proc.devRef .tc main_v3) = positioned (m ((c : Thread nD τ).loc main_arg0)) (m ((c : Thread nD τ).loc main_arg1)) := by
  rw [final_v3]
  unfold positioned yOut sumArr
  rw [xIn_eq, tabIn_eq, table_found]
  funext i
  obtain ⟨b, p, d, rfl⟩ : ∃ b p d, i = ix3 b p d := ⟨i 0, i 1, i 2, eq_ix3 i⟩
  rw [transpose_ix3_021_apply, transpose_ix3_021_apply]
  exact congrArg (FloatOps.addf _) (transpose_ix2_apply _ _ d p)

/-- The input is as it was launched: no host operation writes it and the kernel does not touch it. -/
theorem final_arg0 (c : Dev nD) : final m c (Proc.devRef .tc main_arg0) = m ((c : Thread nD τ).loc main_arg0) := by
  refine (StableHlo.after_of_forall_not_mem (b := Proc.devRef .tc main_arg0) _ _ (List.forall_iff_forall_mem.mp ?_)).trans ?_
  · simp only [hostOps1, List.flatten_cons, List.flatten_nil, List.append_nil, List.Forall, StableHlo.unary_writes, Finset.mem_singleton]
    exact StableHlo.devRef_ne_of_ne (by decide)
  · exact (Pipeline.withArrays_of_ne _ c _ _ main_arg0 (by exact (by decide : ∀ w, Pipeline.arrRef spec0 w ≠ main_arg0))).trans
      ((Pipeline.withR_of_not_mem _ _ _ _ main_arg0 (by decide)).trans (V_main_arg0 m c))
/-- So is the table. -/
theorem final_arg1 (c : Dev nD) : final m c (Proc.devRef .tc main_arg1) = m ((c : Thread nD τ).loc main_arg1) := by
  refine (StableHlo.after_of_forall_not_mem (b := Proc.devRef .tc main_arg1) _ _ (List.forall_iff_forall_mem.mp ?_)).trans ?_
  · simp only [hostOps1, List.flatten_cons, List.flatten_nil, List.append_nil, List.Forall, StableHlo.unary_writes, Finset.mem_singleton]
    exact StableHlo.devRef_ne_of_ne (by decide)
  · exact (Pipeline.withArrays_of_ne _ c _ _ main_arg1 (by exact (by decide : ∀ w, Pipeline.arrRef spec0 w ≠ main_arg1))).trans
      ((Pipeline.withR_of_not_mem _ _ _ _ main_arg1 (by decide)).trans (V_main_arg1 m c))

/-- Every run ends with the sum in the result, the arguments as launched and every semaphore at zero. -/
theorem run_sum :
    θ_run defs (onTc (τ := τ) (main (F := F))) ⟨m, fun _ => 0, ρ⟩ fun r =>
      (∀ c : Dev nD, r.2.mem ((c : Thread nD τ).loc main_v3)
            = positioned (m ((c : Thread nD τ).loc main_arg0)) (m ((c : Thread nD τ).loc main_arg1))
          ∧ r.2.mem ((c : Thread nD τ).loc main_arg0) = m ((c : Thread nD τ).loc main_arg0)
          ∧ r.2.mem ((c : Thread nD τ).loc main_arg1) = m ((c : Thread nD τ).loc main_arg1))
        ∧ r.2.sem = fun _ => 0 :=
  (θ_run defs (onTc (τ := τ) main) ⟨m, fun _ => 0, ρ⟩).mono (fun _ h =>
    ⟨fun c => ⟨(h.1 c _ (Pipeline.mem_restRefs_of main_v3 (by decide) (by decide))).trans (final_sum m c),
      (h.1 c _ (Pipeline.mem_restRefs_of main_arg0 (by decide) (by decide))).trans (final_arg0 m c),
      (h.1 c _ (Pipeline.mem_restRefs_of main_arg1 (by decide) (by decide))).trans (final_arg1 m c)⟩, h.2⟩) (run_final m ρ)

end Cert.Proof.Positions

end
-- ==== Proof.Equation.lean ====
/-
  The five claims, from what each program's runs leave.
-/
module

public import proofs.«01_k».proof.Defs
public import proofs.«01_k».proof.Proof.Same
public import proofs.«01_k».proof.Proof.Reference
public import proofs.«01_k».proof.Proof.KernelIdeal.Result

@[expose] public section

noncomputable section

namespace Cert.Proof

open Idealize.ShloMosaic Idealize.SL.Sem

/-- The idealized kernel runs, leaves its arguments alone and ends quiescent. -/
theorem ideal_quiescent : Cert.quiescent_KernelIdeal := fun m g _ =>
  (θ_run (Cert.KernelIdeal.defs (F := Ideal)) (onTc (τ := Cert.KernelIdeal.τ) Cert.KernelIdeal.main) ⟨m, fun _ => 0, g⟩).mono
    (fun _ h => ⟨fun c => (h.1 c).2, h.2⟩) (Positions.run_sum (F := Ideal) m g)

/-- So does the kernel: it is the same program, read at the machine's floats. -/
theorem kernel_quiescent : Cert.quiescent_Kernel := fun m g _ => by
  rw [Same.defs_same (F := Bits), Same.main_same (F := Bits)]
  exact (θ_run (Cert.KernelIdeal.defs (F := Bits)) (onTc (τ := Cert.KernelIdeal.τ) Cert.KernelIdeal.main) ⟨m, fun _ => 0, g⟩).mono
    (fun _ h => ⟨fun c => (h.1 c).2, h.2⟩) (Positions.run_sum (F := Bits) m g)

/-- So does the reference. -/
theorem reference_quiescent : Cert.quiescent_ReferenceIdeal := fun m g _ =>
  (θ_run (Cert.ReferenceIdeal.defs (F := Ideal)) (onTc (τ := Cert.ReferenceIdeal.τ) Cert.ReferenceIdeal.main) ⟨m, fun _ => 0, g⟩).mono
    (fun _ h => ⟨fun c => (h.1 c).2, h.2⟩) (Lookup.run_found (F := Ideal) m g)

/-- From the same arguments the idealized kernel and the reference end with the same result: at each element, one sum of the same two
    numbers. -/
theorem kernel_equals_reference : Cert.algebraic_KernelIdeal_ReferenceIdeal := fun m g m' g' _ same =>
  ⟨fun c => Positions.positioned (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    (θ_run (Cert.KernelIdeal.defs (F := Ideal)) (onTc (τ := Cert.KernelIdeal.τ) Cert.KernelIdeal.main) ⟨m, fun _ => 0, g⟩).mono
      (fun _ h => h.1) (Positions.run_sum (F := Ideal) m g),
    (θ_run (Cert.ReferenceIdeal.defs (F := Ideal)) (onTc (τ := Cert.ReferenceIdeal.τ) Cert.ReferenceIdeal.main) ⟨m', fun _ => 0, g'⟩).mono
      (fun _ h c => ⟨(h.1 c).1.trans (funext fun i =>
        congrArg₂ (FloatOps.addf (F := Ideal) (φ := .f32)) (congrFun (same c).1 i) (congrFun (same c).2 (ValueIdx.ix2 (i 1) (i 2)))), (h.1 c).2⟩)
      (Lookup.run_found (F := Ideal) m' g')⟩

end Cert.Proof

end
-- ==== Proof.lean ====
/-
  The certificate: the claim about the kernel, its idealization and the reference. `Proof/KernelIdeal/` goes through the kernel's run,
  from the copies of one chunk up to what the whole program leaves; `Proof/Reference.lean` reads the reference's result;
  `Proof/Equation.lean` states the five parts.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.Same
public import proofs.«01_k».proof.Proof.Reference
public import proofs.«01_k».proof.Proof.KernelIdeal.Result
public import proofs.«01_k».proof.Proof.Equation

@[expose] public section

noncomputable section

namespace Cert.Proof

/-- Everything the certificate claims. -/
theorem claim : Cert.Claim :=
  ⟨Cert.Kernel.Gen.facts, Cert.KernelIdeal.Gen.facts, Cert.ReferenceIdeal.Gen.facts,
    kernel_quiescent, ideal_quiescent, reference_quiescent, trivial, kernel_equals_reference⟩

end Cert.Proof

end
